-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16x34x66x66 : Shape := ⟨5, ![8, 16, 34, 66, 66]⟩
abbrev S32x16x3x3x3 : Shape := ⟨5, ![32, 16, 3, 3, 3]⟩
abbrev S32 : Shape := ⟨1, ![32]⟩
abbrev S8x34x16x67x70 : Shape := ⟨5, ![8, 34, 16, 67, 70]⟩
abbrev S1x16x34x66x66 : Shape := ⟨5, ![1, 16, 34, 66, 66]⟩
abbrev S1x34x16x67x70 : Shape := ⟨5, ![1, 34, 16, 67, 70]⟩
abbrev S1x16x1x66x66 : Shape := ⟨5, ![1, 16, 1, 66, 66]⟩
abbrev S16x66x66 : Shape := ⟨3, ![16, 66, 66]⟩
abbrev S16x1x66 : Shape := ⟨3, ![16, 1, 66]⟩
abbrev S16x67x66 : Shape := ⟨3, ![16, 67, 66]⟩
abbrev S16x67x4 : Shape := ⟨3, ![16, 67, 4]⟩
abbrev S16x67x70 : Shape := ⟨3, ![16, 67, 70]⟩
abbrev S1x1x16x67x70 : Shape := ⟨5, ![1, 1, 16, 67, 70]⟩
abbrev S8x34x16x4690 : Shape := ⟨4, ![8, 34, 16, 4690]⟩
abbrev S3x32x3x3x16 : Shape := ⟨5, ![3, 32, 3, 3, 16]⟩
abbrev S96x144 : Shape := ⟨2, ![96, 144]⟩
abbrev S32x1 : Shape := ⟨2, ![32, 1]⟩
abbrev S4480 : Shape := ⟨1, ![4480]⟩
abbrev S_ : Shape := ⟨0, ![]⟩
abbrev S4480x1 : Shape := ⟨2, ![4480, 1]⟩
abbrev S1 : Shape := ⟨1, ![1]⟩
abbrev S4480x128 : Shape := ⟨2, ![4480, 128]⟩
abbrev S8x32x128 : Shape := ⟨3, ![8, 32, 128]⟩
abbrev S1x1x16x4690 : Shape := ⟨4, ![1, 1, 16, 4690]⟩
abbrev S1x32x128 : Shape := ⟨3, ![1, 32, 128]⟩
abbrev S2x96x4480 : Shape := ⟨3, ![2, 96, 4480]⟩
abbrev S16x4690 : Shape := ⟨2, ![16, 4690]⟩
abbrev S16x4480 : Shape := ⟨2, ![16, 4480]⟩
abbrev S144x4480 : Shape := ⟨2, ![144, 4480]⟩
abbrev S144x8960 : Shape := ⟨2, ![144, 8960]⟩
abbrev S96x8960 : Shape := ⟨2, ![96, 8960]⟩
abbrev S96x4480 : Shape := ⟨2, ![96, 4480]⟩
abbrev S1x96x4480 : Shape := ⟨3, ![1, 96, 4480]⟩
abbrev S1x32x4480 : Shape := ⟨3, ![1, 32, 4480]⟩
abbrev S32x4480 : Shape := ⟨2, ![32, 4480]⟩
abbrev S32x4479 : Shape := ⟨2, ![32, 4479]⟩
abbrev S32x4410 : Shape := ⟨2, ![32, 4410]⟩
abbrev S32x70 : Shape := ⟨2, ![32, 70]⟩
abbrev S32x128 : Shape := ⟨2, ![32, 128]⟩
abbrev S8x32x1 : Shape := ⟨3, ![8, 32, 1]⟩
abbrev S8x32 : Shape := ⟨2, ![8, 32]⟩
abbrev S8 : Shape := ⟨1, ![8]⟩
abbrev S8x1x1x1 : Shape := ⟨4, ![8, 1, 1, 1]⟩

abbrev nBuf : Space → Nat
  | .hbm => 128
  | .vmem => 18
  | .smem => 0
  | _ => 0

abbrev bufTy : (tb : Table) → Fin (tcTables nBuf tb) → BufTy
  | .hbm, ⟨0, _⟩ => ⟨S8x16x34x66x66, .f32⟩
  | .hbm, ⟨1, _⟩ => ⟨S32x16x3x3x3, .f32⟩
  | .hbm, ⟨2, _⟩ => ⟨S32, .f32⟩
  | .hbm, ⟨3, _⟩ => ⟨S32, .f32⟩
  | .hbm, ⟨4, _⟩ => ⟨S8x34x16x67x70, .bf16⟩
  | .hbm, ⟨5, _⟩ => ⟨S8x34x16x4690, .bf16⟩
  | .hbm, ⟨6, _⟩ => ⟨S3x32x3x3x16, .f32⟩
  | .hbm, ⟨7, _⟩ => ⟨S96x144, .f32⟩
  | .hbm, ⟨8, _⟩ => ⟨S96x144, .bf16⟩
  | .hbm, ⟨9, _⟩ => ⟨S32x1, .f32⟩
  | .hbm, ⟨10, _⟩ => ⟨S4480, .i32⟩
  | .hbm, ⟨11, _⟩ => ⟨S_, .i32⟩
  | .hbm, ⟨12, _⟩ => ⟨S_, .i32⟩
  | .hbm, ⟨13, _⟩ => ⟨S4480, .i32⟩
  | .hbm, ⟨14, _⟩ => ⟨S4480, .i32⟩
  | .hbm, ⟨15, _⟩ => ⟨S4480, .i32⟩
  | .hbm, ⟨16, _⟩ => ⟨S_, .i32⟩
  | .hbm, ⟨17, _⟩ => ⟨S4480, .i32⟩
  | .hbm, ⟨18, _⟩ => ⟨S4480, .i1⟩
  | .hbm, ⟨19, _⟩ => ⟨S4480, .i32⟩
  | .hbm, ⟨20, _⟩ => ⟨S4480, .i32⟩
  | .hbm, ⟨21, _⟩ => ⟨S_, .i32⟩
  | .hbm, ⟨22, _⟩ => ⟨S4480, .i32⟩
  | .hbm, ⟨23, _⟩ => ⟨S4480, .i1⟩
  | .hbm, ⟨24, _⟩ => ⟨S4480, .i1⟩
  | .hbm, ⟨25, _⟩ => ⟨S_, .i32⟩
  | .hbm, ⟨26, _⟩ => ⟨S4480, .i32⟩
  | .hbm, ⟨27, _⟩ => ⟨S4480, .i32⟩
  | .hbm, ⟨28, _⟩ => ⟨S4480, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S4480, .i32⟩
  | .hbm, ⟨36, _⟩ => ⟨S4480, .i32⟩
  | .hbm, ⟨37, _⟩ => ⟨S_, .i32⟩
  | .hbm, ⟨38, _⟩ => ⟨S4480, .i32⟩
  | .hbm, ⟨39, _⟩ => ⟨S4480, .i1⟩
  | .hbm, ⟨40, _⟩ => ⟨S_, .i32⟩
  | .hbm, ⟨41, _⟩ => ⟨S4480, .i32⟩
  | .hbm, ⟨42, _⟩ => ⟨S4480, .i1⟩
  | .hbm, ⟨43, _⟩ => ⟨S_, .i32⟩
  | .hbm, ⟨44, _⟩ => ⟨S_, .i1⟩
  | .hbm, ⟨45, _⟩ => ⟨S4480, .i1⟩
  | .hbm, ⟨46, _⟩ => ⟨S4480, .i1⟩
  | .hbm, ⟨47, _⟩ => ⟨S4480, .i1⟩
  | .hbm, ⟨48, _⟩ => ⟨S4480, .i32⟩
  | .hbm, ⟨49, _⟩ => ⟨S4480, .i32⟩
  | .hbm, ⟨50, _⟩ => ⟨S4480, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S4480, .i32⟩
  | .hbm, ⟨58, _⟩ => ⟨S4480, .i32⟩
  | .hbm, ⟨59, _⟩ => ⟨S_, .i32⟩
  | .hbm, ⟨60, _⟩ => ⟨S4480, .i32⟩
  | .hbm, ⟨61, _⟩ => ⟨S4480, .i1⟩
  | .hbm, ⟨62, _⟩ => ⟨S_, .i32⟩
  | .hbm, ⟨63, _⟩ => ⟨S4480, .i32⟩
  | .hbm, ⟨64, _⟩ => ⟨S4480, .i1⟩
  | .hbm, ⟨65, _⟩ => ⟨S_, .i32⟩
  | .hbm, ⟨66, _⟩ => ⟨S_, .i1⟩
  | .hbm, ⟨67, _⟩ => ⟨S4480, .i1⟩
  | .hbm, ⟨68, _⟩ => ⟨S4480, .i1⟩
  | .hbm, ⟨69, _⟩ => ⟨S4480, .i1⟩
  | .hbm, ⟨70, _⟩ => ⟨S4480, .i32⟩
  | .hbm, ⟨71, _⟩ => ⟨S4480, .i32⟩
  | .hbm, ⟨72, _⟩ => ⟨S4480, .i32⟩
  | .hbm, ⟨73, _⟩ => ⟨S_, .i32⟩
  | .hbm, ⟨74, _⟩ => ⟨S4480, .i32⟩
  | .hbm, ⟨75, _⟩ => ⟨S4480, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S4480, .i32⟩
  | .hbm, ⟨83, _⟩ => ⟨S4480, .i32⟩
  | .hbm, ⟨84, _⟩ => ⟨S_, .i32⟩
  | .hbm, ⟨85, _⟩ => ⟨S4480, .i32⟩
  | .hbm, ⟨86, _⟩ => ⟨S4480, .i1⟩
  | .hbm, ⟨87, _⟩ => ⟨S_, .i32⟩
  | .hbm, ⟨88, _⟩ => ⟨S4480, .i32⟩
  | .hbm, ⟨89, _⟩ => ⟨S4480, .i1⟩
  | .hbm, ⟨90, _⟩ => ⟨S_, .i32⟩
  | .hbm, ⟨91, _⟩ => ⟨S_, .i1⟩
  | .hbm, ⟨92, _⟩ => ⟨S4480, .i1⟩
  | .hbm, ⟨93, _⟩ => ⟨S4480, .i1⟩
  | .hbm, ⟨94, _⟩ => ⟨S4480, .i1⟩
  | .hbm, ⟨95, _⟩ => ⟨S4480, .i32⟩
  | .hbm, ⟨96, _⟩ => ⟨S4480, .i32⟩
  | .hbm, ⟨97, _⟩ => ⟨S4480, .i32⟩
  | .hbm, ⟨98, _⟩ => ⟨S_, .i32⟩
  | .hbm, ⟨99, _⟩ => ⟨S4480, .i32⟩
  | .hbm, ⟨100, _⟩ => ⟨S4480, .i1⟩
  | .hbm, ⟨101, _⟩ => ⟨S4480, .i1⟩
  | .hbm, ⟨102, _⟩ => ⟨S_, .i32⟩
  | .hbm, ⟨103, _⟩ => ⟨S4480, .i32⟩
  | .hbm, ⟨104, _⟩ => ⟨S4480, .i1⟩
  | .hbm, ⟨105, _⟩ => ⟨S4480, .i1⟩
  | .hbm, ⟨106, _⟩ => ⟨S4480x1, .i1⟩
  | .hbm, ⟨107, _⟩ => ⟨S_, .bf16⟩
  | .hbm, ⟨108, _⟩ => ⟨S1, .bf16⟩
  | .hbm, ⟨109, _⟩ => ⟨S_, .bf16⟩
  | .hbm, ⟨110, _⟩ => ⟨S1, .bf16⟩
  | .hbm, ⟨111, _⟩ => ⟨S4480x1, .bf16⟩
  | .hbm, ⟨112, _⟩ => ⟨S4480x1, .bf16⟩
  | .hbm, ⟨113, _⟩ => ⟨S4480x1, .bf16⟩
  | .hbm, ⟨114, _⟩ => ⟨S4480x128, .bf16⟩
  | .hbm, ⟨115, _⟩ => ⟨S8x32x128, .f32⟩
  | .hbm, ⟨116, _⟩ => ⟨S8x32x1, .f32⟩
  | .hbm, ⟨117, _⟩ => ⟨S8x32, .f32⟩
  | .hbm, ⟨118, _⟩ => ⟨S_, .f32⟩
  | .hbm, ⟨119, _⟩ => ⟨S8, .f32⟩
  | .hbm, ⟨120, _⟩ => ⟨S_, .f32⟩
  | .hbm, ⟨121, _⟩ => ⟨S8, .f32⟩
  | .hbm, ⟨122, _⟩ => ⟨S8, .f32⟩
  | .hbm, ⟨123, _⟩ => ⟨S_, .f32⟩
  | .hbm, ⟨124, _⟩ => ⟨S_, .f32⟩
  | .hbm, ⟨125, _⟩ => ⟨S8, .f32⟩
  | .hbm, ⟨126, _⟩ => ⟨S8, .f32⟩
  | .hbm, ⟨127, _⟩ => ⟨S8x1x1x1, .f32⟩
  | .local _ .vmem, ⟨0, _⟩ => ⟨S1x16x34x66x66, .f32⟩
  | .local _ .vmem, ⟨1, _⟩ => ⟨S1x16x34x66x66, .f32⟩
  | .local _ .vmem, ⟨2, _⟩ => ⟨S1x34x16x67x70, .bf16⟩
  | .local _ .vmem, ⟨3, _⟩ => ⟨S1x34x16x67x70, .bf16⟩
  | .local _ .vmem, ⟨4, _⟩ => ⟨S1x1x16x4690, .bf16⟩
  | .local _ .vmem, ⟨5, _⟩ => ⟨S1x1x16x4690, .bf16⟩
  | .local _ .vmem, ⟨6, _⟩ => ⟨S1x1x16x4690, .bf16⟩
  | .local _ .vmem, ⟨7, _⟩ => ⟨S1x1x16x4690, .bf16⟩
  | .local _ .vmem, ⟨8, _⟩ => ⟨S1x1x16x4690, .bf16⟩
  | .local _ .vmem, ⟨9, _⟩ => ⟨S1x1x16x4690, .bf16⟩
  | .local _ .vmem, ⟨10, _⟩ => ⟨S1x1x16x4690, .bf16⟩
  | .local _ .vmem, ⟨11, _⟩ => ⟨S1x1x16x4690, .bf16⟩
  | .local _ .vmem, ⟨12, _⟩ => ⟨S96x144, .bf16⟩
  | .local _ .vmem, ⟨13, _⟩ => ⟨S32x1, .f32⟩
  | .local _ .vmem, ⟨14, _⟩ => ⟨S4480x128, .bf16⟩
  | .local _ .vmem, ⟨15, _⟩ => ⟨S1x32x128, .f32⟩
  | .local _ .vmem, ⟨16, _⟩ => ⟨S1x32x128, .f32⟩
  | .local _ .vmem, ⟨17, _⟩ => ⟨S2x96x4480, .f32⟩
  | _, _ => ⟨S8x16x34x66x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v8 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v9 : Ref sig .tc := ⟨.hbm, 72, rfl⟩
abbrev main_c_2 : Ref sig .tc := ⟨.hbm, 73, rfl⟩
abbrev main_v10 : Ref sig .tc := ⟨.hbm, 74, rfl⟩
abbrev main_v11 : Ref sig .tc := ⟨.hbm, 75, rfl⟩
abbrev main_c_3 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v12 : Ref sig .tc := ⟨.hbm, 97, rfl⟩
abbrev main_c_4 : Ref sig .tc := ⟨.hbm, 98, rfl⟩
abbrev main_v13 : Ref sig .tc := ⟨.hbm, 99, rfl⟩
abbrev main_v14 : Ref sig .tc := ⟨.hbm, 100, rfl⟩
abbrev main_v15 : Ref sig .tc := ⟨.hbm, 101, rfl⟩
abbrev main_c_5 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_cst : Ref sig .tc := ⟨.hbm, 107, rfl⟩
abbrev main_v20 : Ref sig .tc := ⟨.hbm, 108, rfl⟩
abbrev main_cst_6 : Ref sig .tc := ⟨.hbm, 109, rfl⟩
abbrev main_v21 : Ref sig .tc := ⟨.hbm, 110, rfl⟩
abbrev main_call4_v0 : Ref sig .tc := ⟨.hbm, 111, rfl⟩
abbrev main_call4_v1 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_cst_7 : Ref sig .tc := ⟨.hbm, 118, rfl⟩
abbrev main_v27 : Ref sig .tc := ⟨.hbm, 119, rfl⟩
abbrev main_cst_8 : Ref sig .tc := ⟨.hbm, 120, rfl⟩
abbrev main_v28 : Ref sig .tc := ⟨.hbm, 121, rfl⟩
abbrev main_v29 : Ref sig .tc := ⟨.hbm, 122, rfl⟩
abbrev main_cst_9 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x16x34x66x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x34x16x67x70 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c0_i32_1 : BitVec 32 := 0#32
  let c0_i32_2 : BitVec 32 := 0#32
  ![arg0.toNat, v1.toNat, c0_i32.toNat, c0_i32_1.toNat]

def cc1_transform_3 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![arg0.toNat, v1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x16x4690 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x16x4690 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x16x4690 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x16x4690 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S96x144 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S4480x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x32x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8x16x34x66x66 : Shape := ⟨5, ![8, 16, 34, 66, 66]⟩
abbrev S32x16x3x3x3 : Shape := ⟨5, ![32, 16, 3, 3, 3]⟩
abbrev S32 : Shape := ⟨1, ![32]⟩
abbrev S_ : Shape := ⟨0, ![]⟩
abbrev S8x32x32x64x64 : Shape := ⟨5, ![8, 32, 32, 64, 64]⟩
abbrev S8x16x32x64x64 : Shape := ⟨5, ![8, 16, 32, 64, 64]⟩
abbrev S32x16x1x1x1 : Shape := ⟨5, ![32, 16, 1, 1, 1]⟩
abbrev S32x16 : Shape := ⟨2, ![32, 16]⟩
abbrev S32x8x32x64x64 : Shape := ⟨5, ![32, 8, 32, 64, 64]⟩
abbrev S1x32x1x1x1 : Shape := ⟨5, ![1, 32, 1, 1, 1]⟩
abbrev S8x32x16x2x32x2x32x2 : Shape := ⟨8, ![8, 32, 16, 2, 32, 2, 32, 2]⟩
abbrev S8x32x16x32x32 : Shape := ⟨5, ![8, 32, 16, 32, 32]⟩
abbrev S8x32 : Shape := ⟨2, ![8, 32]⟩
abbrev S1x32 : Shape := ⟨2, ![1, 32]⟩
abbrev S8 : Shape := ⟨1, ![8]⟩
abbrev S8x1x1x1 : Shape := ⟨4, ![8, 1, 1, 1]⟩

abbrev nBuf : Space → Nat
  | .hbm => 185
  | .vmem => 0
  | .smem => 0
  | _ => 0

abbrev hbmTy0_0 (i : Nat) : BufTy := match i % 128 with
  | 0 => ⟨S8x16x34x66x66, .f32⟩
  | 1 => ⟨S32x16x3x3x3, .f32⟩
  | 2 => ⟨S32, .f32⟩
  | 3 => ⟨S32, .f32⟩
  | 4 => ⟨S_, .f32⟩
  | 5 => ⟨S8x32x32x64x64, .f32⟩
  | 6 => ⟨S8x16x32x64x64, .f32⟩
  | 7 => ⟨S32x16x1x1x1, .f32⟩
  | 8 => ⟨S32x16, .f32⟩
  | 9 => ⟨S32x8x32x64x64, .f32⟩
  | 10 => ⟨S8x32x32x64x64, .f32⟩
  | 11 => ⟨S8x32x32x64x64, .f32⟩
  | 12 => ⟨S8x16x32x64x64, .f32⟩
  | 13 => ⟨S32x16x1x1x1, .f32⟩
  | 14 => ⟨S32x16, .f32⟩
  | 15 => ⟨S32x8x32x64x64, .f32⟩
  | 16 => ⟨S8x32x32x64x64, .f32⟩
  | 17 => ⟨S8x32x32x64x64, .f32⟩
  | 18 => ⟨S8x16x32x64x64, .f32⟩
  | 19 => ⟨S32x16x1x1x1, .f32⟩
  | 20 => ⟨S32x16, .f32⟩
  | 21 => ⟨S32x8x32x64x64, .f32⟩
  | 22 => ⟨S8x32x32x64x64, .f32⟩
  | 23 => ⟨S8x32x32x64x64, .f32⟩
  | 24 => ⟨S8x16x32x64x64, .f32⟩
  | 25 => ⟨S32x16x1x1x1, .f32⟩
  | 26 => ⟨S32x16, .f32⟩
  | 27 => ⟨S32x8x32x64x64, .f32⟩
  | 28 => ⟨S8x32x32x64x64, .f32⟩
  | 29 => ⟨S8x32x32x64x64, .f32⟩
  | 30 => ⟨S8x16x32x64x64, .f32⟩
  | 31 => ⟨S32x16x1x1x1, .f32⟩
  | 32 => ⟨S32x16, .f32⟩
  | 33 => ⟨S32x8x32x64x64, .f32⟩
  | 34 => ⟨S8x32x32x64x64, .f32⟩
  | 35 => ⟨S8x32x32x64x64, .f32⟩
  | 36 => ⟨S8x16x32x64x64, .f32⟩
  | 37 => ⟨S32x16x1x1x1, .f32⟩
  | 38 => ⟨S32x16, .f32⟩
  | 39 => ⟨S32x8x32x64x64, .f32⟩
  | 40 => ⟨S8x32x32x64x64, .f32⟩
  | 41 => ⟨S8x32x32x64x64, .f32⟩
  | 42 => ⟨S8x16x32x64x64, .f32⟩
  | 43 => ⟨S32x16x1x1x1, .f32⟩
  | 44 => ⟨S32x16, .f32⟩
  | 45 => ⟨S32x8x32x64x64, .f32⟩
  | 46 => ⟨S8x32x32x64x64, .f32⟩
  | 47 => ⟨S8x32x32x64x64, .f32⟩
  | 48 => ⟨S8x16x32x64x64, .f32⟩
  | 49 => ⟨S32x16x1x1x1, .f32⟩
  | 50 => ⟨S32x16, .f32⟩
  | 51 => ⟨S32x8x32x64x64, .f32⟩
  | 52 => ⟨S8x32x32x64x64, .f32⟩
  | 53 => ⟨S8x32x32x64x64, .f32⟩
  | 54 => ⟨S8x16x32x64x64, .f32⟩
  | 55 => ⟨S32x16x1x1x1, .f32⟩
  | 56 => ⟨S32x16, .f32⟩
  | 57 => ⟨S32x8x32x64x64, .f32⟩
  | 58 => ⟨S8x32x32x64x64, .f32⟩
  | 59 => ⟨S8x32x32x64x64, .f32⟩
  | 60 => ⟨S8x16x32x64x64, .f32⟩
  | 61 => ⟨S32x16x1x1x1, .f32⟩
  | 62 => ⟨S32x16, .f32⟩
  | 63 => ⟨S32x8x32x64x64, .f32⟩
  | 64 => ⟨S8x32x32x64x64, .f32⟩
  | 65 => ⟨S8x32x32x64x64, .f32⟩
  | 66 => ⟨S8x16x32x64x64, .f32⟩
  | 67 => ⟨S32x16x1x1x1, .f32⟩
  | 68 => ⟨S32x16, .f32⟩
  | 69 => ⟨S32x8x32x64x64, .f32⟩
  | 70 => ⟨S8x32x32x64x64, .f32⟩
  | 71 => ⟨S8x32x32x64x64, .f32⟩
  | 72 => ⟨S8x16x32x64x64, .f32⟩
  | 73 => ⟨S32x16x1x1x1, .f32⟩
  | 74 => ⟨S32x16, .f32⟩
  | 75 => ⟨S32x8x32x64x64, .f32⟩
  | 76 => ⟨S8x32x32x64x64, .f32⟩
  | 77 => ⟨S8x32x32x64x64, .f32⟩
  | 78 => ⟨S8x16x32x64x64, .f32⟩
  | 79 => ⟨S32x16x1x1x1, .f32⟩
  | 80 => ⟨S32x16, .f32⟩
  | 81 => ⟨S32x8x32x64x64, .f32⟩
  | 82 => ⟨S8x32x32x64x64, .f32⟩
  | 83 => ⟨S8x32x32x64x64, .f32⟩
  | 84 => ⟨S8x16x32x64x64, .f32⟩
  | 85 => ⟨S32x16x1x1x1, .f32⟩
  | 86 => ⟨S32x16, .f32⟩
  | 87 => ⟨S32x8x32x64x64, .f32⟩
  | 88 => ⟨S8x32x32x64x64, .f32⟩
  | 89 => ⟨S8x32x32x64x64, .f32⟩
  | 90 => ⟨S8x16x32x64x64, .f32⟩
  | 91 => ⟨S32x16x1x1x1, .f32⟩
  | 92 => ⟨S32x16, .f32⟩
  | 93 => ⟨S32x8x32x64x64, .f32⟩
  | 94 => ⟨S8x32x32x64x64, .f32⟩
  | 95 => ⟨S8x32x32x64x64, .f32⟩
  | 96 => ⟨S8x16x32x64x64, .f32⟩
  | 97 => ⟨S32x16x1x1x1, .f32⟩
  | 98 => ⟨S32x16, .f32⟩
  | 99 => ⟨S32x8x32x64x64, .f32⟩
  | 100 => ⟨S8x32x32x64x64, .f32⟩
  | 101 => ⟨S8x32x32x64x64, .f32⟩
  | 102 => ⟨S8x16x32x64x64, .f32⟩
  | 103 => ⟨S32x16x1x1x1, .f32⟩
  | 104 => ⟨S32x16, .f32⟩
  | 105 => ⟨S32x8x32x64x64, .f32⟩
  | 106 => ⟨S8x32x32x64x64, .f32⟩
  | 107 => ⟨S8x32x32x64x64, .f32⟩
  | 108 => ⟨S8x16x32x64x64, .f32⟩
  | 109 => ⟨S32x16x1x1x1, .f32⟩
  | 110 => ⟨S32x16, .f32⟩
  | 111 => ⟨S32x8x32x64x64, .f32⟩
  | 112 => ⟨S8x32x32x64x64, .f32⟩
  | 113 => ⟨S8x32x32x64x64, .f32⟩
  | 114 => ⟨S8x16x32x64x64, .f32⟩
  | 115 => ⟨S32x16x1x1x1, .f32⟩
  | 116 => ⟨S32x16, .f32⟩
  | 117 => ⟨S32x8x32x64x64, .f32⟩
  | 118 => ⟨S8x32x32x64x64, .f32⟩
  | 119 => ⟨S8x32x32x64x64, .f32⟩
  | 120 => ⟨S8x16x32x64x64, .f32⟩
  | 121 => ⟨S32x16x1x1x1, .f32⟩
  | 122 => ⟨S32x16, .f32⟩
  | 123 => ⟨S32x8x32x64x64, .f32⟩
  | 124 => ⟨S8x32x32x64x64, .f32⟩
  | 125 => ⟨S8x32x32x64x64, .f32⟩
  | 126 => ⟨S8x16x32x64x64, .f32⟩
  | 127 => ⟨S32x16x1x1x1, .f32⟩
  | _ => ⟨S8x16x34x66x66, .f32⟩

abbrev hbmTy0_1 (i : Nat) : BufTy := match i % 128 with
  | 0 => ⟨S32x16, .f32⟩
  | 1 => ⟨S32x8x32x64x64, .f32⟩
  | 2 => ⟨S8x32x32x64x64, .f32⟩
  | 3 => ⟨S8x32x32x64x64, .f32⟩
  | 4 => ⟨S8x16x32x64x64, .f32⟩
  | 5 => ⟨S32x16x1x1x1, .f32⟩
  | 6 => ⟨S32x16, .f32⟩
  | 7 => ⟨S32x8x32x64x64, .f32⟩
  | 8 => ⟨S8x32x32x64x64, .f32⟩
  | 9 => ⟨S8x32x32x64x64, .f32⟩
  | 10 => ⟨S8x16x32x64x64, .f32⟩
  | 11 => ⟨S32x16x1x1x1, .f32⟩
  | 12 => ⟨S32x16, .f32⟩
  | 13 => ⟨S32x8x32x64x64, .f32⟩
  | 14 => ⟨S8x32x32x64x64, .f32⟩
  | 15 => ⟨S8x32x32x64x64, .f32⟩
  | 16 => ⟨S8x16x32x64x64, .f32⟩
  | 17 => ⟨S32x16x1x1x1, .f32⟩
  | 18 => ⟨S32x16, .f32⟩
  | 19 => ⟨S32x8x32x64x64, .f32⟩
  | 20 => ⟨S8x32x32x64x64, .f32⟩
  | 21 => ⟨S8x32x32x64x64, .f32⟩
  | 22 => ⟨S8x16x32x64x64, .f32⟩
  | 23 => ⟨S32x16x1x1x1, .f32⟩
  | 24 => ⟨S32x16, .f32⟩
  | 25 => ⟨S32x8x32x64x64, .f32⟩
  | 26 => ⟨S8x32x32x64x64, .f32⟩
  | 27 => ⟨S8x32x32x64x64, .f32⟩
  | 28 => ⟨S8x16x32x64x64, .f32⟩
  | 29 => ⟨S32x16x1x1x1, .f32⟩
  | 30 => ⟨S32x16, .f32⟩
  | 31 => ⟨S32x8x32x64x64, .f32⟩
  | 32 => ⟨S8x32x32x64x64, .f32⟩
  | 33 => ⟨S8x32x32x64x64, .f32⟩
  | 34 => ⟨S8x16x32x64x64, .f32⟩
  | 35 => ⟨S32x16x1x1x1, .f32⟩
  | 36 => ⟨S32x16, .f32⟩
  | 37 => ⟨S32x8x32x64x64, .f32⟩
  | 38 => ⟨S8x32x32x64x64, .f32⟩
  | 39 => ⟨S8x32x32x64x64, .f32⟩
  | 40 => ⟨S1x32x1x1x1, .f32⟩
  | 41 => ⟨S8x32x32x64x64, .f32⟩
  | 42 => ⟨S8x32x32x64x64, .f32⟩
  | 43 => ⟨S8x32x16x2x32x2x32x2, .f32⟩
  | 44 => ⟨S_, .f32⟩
  | 45 => ⟨S8x32x16x32x32, .f32⟩
  | 46 => ⟨S_, .f32⟩
  | 47 => ⟨S8x32, .f32⟩
  | 48 => ⟨S_, .f32⟩
  | 49 => ⟨S8x32, .f32⟩
  | 50 => ⟨S8x32, .f32⟩
  | 51 => ⟨S1x32, .f32⟩
  | 52 => ⟨S8x32, .f32⟩
  | 53 => ⟨S8x32, .f32⟩
  | 54 => ⟨S_, .f32⟩
  | 55 => ⟨S8, .f32⟩
  | 56 => ⟨S8x1x1x1, .f32⟩
  | _ => ⟨S8x16x34x66x66, .f32⟩

abbrev hbmTy (i : Nat) : BufTy := match i / 128 with
  | 0 => hbmTy0_0 i
  | 1 => hbmTy0_1 i
  | _ => ⟨S8x16x34x66x66, .f32⟩

abbrev bufTy : (tb : Table) → Fin (tcTables nBuf tb) → BufTy
  | .hbm, ⟨i, _⟩ => hbmTy i
  | _, _ => ⟨S8x16x34x66x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_cst_0 : Ref sig .tc := ⟨.hbm, 172, rfl⟩
abbrev main_v167 : Ref sig .tc := ⟨.hbm, 173, rfl⟩
abbrev main_cst_1 : Ref sig .tc := ⟨.hbm, 174, rfl⟩
abbrev main_v168 : Ref sig .tc := ⟨.hbm, 175, rfl⟩
abbrev main_cst_2 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_cst_3 : Ref sig .tc := ⟨.hbm, 182, rfl⟩
abbrev main_v174 : Ref sig .tc := ⟨.hbm, 183, rfl⟩
abbrev main_v175 : Ref sig .tc := ⟨.hbm, 184, rfl⟩

abbrev nD : Nat := 1
abbrev τ : Topo := Topo.v7x

variable {F : FTy → Type} [FloatOps F]
-- ==== Proof.KernelIdeal.FmtRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 0: the layout kernel, one grid point per batch element. What its body leaves in the output block, and its obligation. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window's array that a grid point reads. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body starts, for any schedule whose body leaves the block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x16x34x66x66 := Rect.unit (s := S1x16x34x66x66) ![0, 0, 0, 0, 0] S1x16x1x66x66.size inb_S1x16x34x66x66_S1x16x1x66x66_0_0_0_0_0
abbrev r0_1 : Rect S1x34x16x67x70 := Rect.unit (s := S1x34x16x67x70) ![0, 0, 0, 0, 0] S1x1x16x67x70.size inb_S1x34x16x67x70_S1x1x16x67x70_0_0_0_0_0
abbrev r0_2 : Rect S1x16x34x66x66 := Rect.unit (s := S1x16x34x66x66) ![0, 0, 1, 0, 0] S1x16x1x66x66.size inb_S1x16x34x66x66_S1x16x1x66x66_0_0_1_0_0
abbrev r0_3 : Rect S1x34x16x67x70 := Rect.unit (s := S1x34x16x67x70) ![0, 1, 0, 0, 0] S1x1x16x67x70.size inb_S1x34x16x67x70_S1x1x16x67x70_0_1_0_0_0
abbrev r0_4 : Rect S1x16x34x66x66 := Rect.unit (s := S1x16x34x66x66) ![0, 0, 2, 0, 0] S1x16x1x66x66.size inb_S1x16x34x66x66_S1x16x1x66x66_0_0_2_0_0
abbrev r0_5 : Rect S1x34x16x67x70 := Rect.unit (s := S1x34x16x67x70) ![0, 2, 0, 0, 0] S1x1x16x67x70.size inb_S1x34x16x67x70_S1x1x16x67x70_0_2_0_0_0
abbrev r0_6 : Rect S1x16x34x66x66 := Rect.unit (s := S1x16x34x66x66) ![0, 0, 3, 0, 0] S1x16x1x66x66.size inb_S1x16x34x66x66_S1x16x1x66x66_0_0_3_0_0
abbrev r0_7 : Rect S1x34x16x67x70 := Rect.unit (s := S1x34x16x67x70) ![0, 3, 0, 0, 0] S1x1x16x67x70.size inb_S1x34x16x67x70_S1x1x16x67x70_0_3_0_0_0
abbrev r0_8 : Rect S1x16x34x66x66 := Rect.unit (s := S1x16x34x66x66) ![0, 0, 4, 0, 0] S1x16x1x66x66.size inb_S1x16x34x66x66_S1x16x1x66x66_0_0_4_0_0
abbrev r0_9 : Rect S1x34x16x67x70 := Rect.unit (s := S1x34x16x67x70) ![0, 4, 0, 0, 0] S1x1x16x67x70.size inb_S1x34x16x67x70_S1x1x16x67x70_0_4_0_0_0
abbrev r0_10 : Rect S1x16x34x66x66 := Rect.unit (s := S1x16x34x66x66) ![0, 0, 5, 0, 0] S1x16x1x66x66.size inb_S1x16x34x66x66_S1x16x1x66x66_0_0_5_0_0
abbrev r0_11 : Rect S1x34x16x67x70 := Rect.unit (s := S1x34x16x67x70) ![0, 5, 0, 0, 0] S1x1x16x67x70.size inb_S1x34x16x67x70_S1x1x16x67x70_0_5_0_0_0
abbrev r0_12 : Rect S1x16x34x66x66 := Rect.unit (s := S1x16x34x66x66) ![0, 0, 6, 0, 0] S1x16x1x66x66.size inb_S1x16x34x66x66_S1x16x1x66x66_0_0_6_0_0
abbrev r0_13 : Rect S1x34x16x67x70 := Rect.unit (s := S1x34x16x67x70) ![0, 6, 0, 0, 0] S1x1x16x67x70.size inb_S1x34x16x67x70_S1x1x16x67x70_0_6_0_0_0
abbrev r0_14 : Rect S1x16x34x66x66 := Rect.unit (s := S1x16x34x66x66) ![0, 0, 7, 0, 0] S1x16x1x66x66.size inb_S1x16x34x66x66_S1x16x1x66x66_0_0_7_0_0
abbrev r0_15 : Rect S1x34x16x67x70 := Rect.unit (s := S1x34x16x67x70) ![0, 7, 0, 0, 0] S1x1x16x67x70.size inb_S1x34x16x67x70_S1x1x16x67x70_0_7_0_0_0
abbrev r0_16 : Rect S1x16x34x66x66 := Rect.unit (s := S1x16x34x66x66) ![0, 0, 8, 0, 0] S1x16x1x66x66.size inb_S1x16x34x66x66_S1x16x1x66x66_0_0_8_0_0
abbrev r0_17 : Rect S1x34x16x67x70 := Rect.unit (s := S1x34x16x67x70) ![0, 8, 0, 0, 0] S1x1x16x67x70.size inb_S1x34x16x67x70_S1x1x16x67x70_0_8_0_0_0
abbrev r0_18 : Rect S1x16x34x66x66 := Rect.unit (s := S1x16x34x66x66) ![0, 0, 9, 0, 0] S1x16x1x66x66.size inb_S1x16x34x66x66_S1x16x1x66x66_0_0_9_0_0
abbrev r0_19 : Rect S1x34x16x67x70 := Rect.unit (s := S1x34x16x67x70) ![0, 9, 0, 0, 0] S1x1x16x67x70.size inb_S1x34x16x67x70_S1x1x16x67x70_0_9_0_0_0
abbrev r0_20 : Rect S1x16x34x66x66 := Rect.unit (s := S1x16x34x66x66) ![0, 0, 10, 0, 0] S1x16x1x66x66.size inb_S1x16x34x66x66_S1x16x1x66x66_0_0_10_0_0
abbrev r0_21 : Rect S1x34x16x67x70 := Rect.unit (s := S1x34x16x67x70) ![0, 10, 0, 0, 0] S1x1x16x67x70.size inb_S1x34x16x67x70_S1x1x16x67x70_0_10_0_0_0
abbrev r0_22 : Rect S1x16x34x66x66 := Rect.unit (s := S1x16x34x66x66) ![0, 0, 11, 0, 0] S1x16x1x66x66.size inb_S1x16x34x66x66_S1x16x1x66x66_0_0_11_0_0
abbrev r0_23 : Rect S1x34x16x67x70 := Rect.unit (s := S1x34x16x67x70) ![0, 11, 0, 0, 0] S1x1x16x67x70.size inb_S1x34x16x67x70_S1x1x16x67x70_0_11_0_0_0
abbrev r0_24 : Rect S1x16x34x66x66 := Rect.unit (s := S1x16x34x66x66) ![0, 0, 12, 0, 0] S1x16x1x66x66.size inb_S1x16x34x66x66_S1x16x1x66x66_0_0_12_0_0
abbrev r0_25 : Rect S1x34x16x67x70 := Rect.unit (s := S1x34x16x67x70) ![0, 12, 0, 0, 0] S1x1x16x67x70.size inb_S1x34x16x67x70_S1x1x16x67x70_0_12_0_0_0
abbrev r0_26 : Rect S1x16x34x66x66 := Rect.unit (s := S1x16x34x66x66) ![0, 0, 13, 0, 0] S1x16x1x66x66.size inb_S1x16x34x66x66_S1x16x1x66x66_0_0_13_0_0
abbrev r0_27 : Rect S1x34x16x67x70 := Rect.unit (s := S1x34x16x67x70) ![0, 13, 0, 0, 0] S1x1x16x67x70.size inb_S1x34x16x67x70_S1x1x16x67x70_0_13_0_0_0
abbrev r0_28 : Rect S1x16x34x66x66 := Rect.unit (s := S1x16x34x66x66) ![0, 0, 14, 0, 0] S1x16x1x66x66.size inb_S1x16x34x66x66_S1x16x1x66x66_0_0_14_0_0
abbrev r0_29 : Rect S1x34x16x67x70 := Rect.unit (s := S1x34x16x67x70) ![0, 14, 0, 0, 0] S1x1x16x67x70.size inb_S1x34x16x67x70_S1x1x16x67x70_0_14_0_0_0
abbrev r0_30 : Rect S1x16x34x66x66 := Rect.unit (s := S1x16x34x66x66) ![0, 0, 15, 0, 0] S1x16x1x66x66.size inb_S1x16x34x66x66_S1x16x1x66x66_0_0_15_0_0
abbrev r0_31 : Rect S1x34x16x67x70 := Rect.unit (s := S1x34x16x67x70) ![0, 15, 0, 0, 0] S1x1x16x67x70.size inb_S1x34x16x67x70_S1x1x16x67x70_0_15_0_0_0
abbrev r0_32 : Rect S1x16x34x66x66 := Rect.unit (s := S1x16x34x66x66) ![0, 0, 16, 0, 0] S1x16x1x66x66.size inb_S1x16x34x66x66_S1x16x1x66x66_0_0_16_0_0
abbrev r0_33 : Rect S1x34x16x67x70 := Rect.unit (s := S1x34x16x67x70) ![0, 16, 0, 0, 0] S1x1x16x67x70.size inb_S1x34x16x67x70_S1x1x16x67x70_0_16_0_0_0
abbrev r0_34 : Rect S1x16x34x66x66 := Rect.unit (s := S1x16x34x66x66) ![0, 0, 17, 0, 0] S1x16x1x66x66.size inb_S1x16x34x66x66_S1x16x1x66x66_0_0_17_0_0
abbrev r0_35 : Rect S1x34x16x67x70 := Rect.unit (s := S1x34x16x67x70) ![0, 17, 0, 0, 0] S1x1x16x67x70.size inb_S1x34x16x67x70_S1x1x16x67x70_0_17_0_0_0
abbrev r0_36 : Rect S1x16x34x66x66 := Rect.unit (s := S1x16x34x66x66) ![0, 0, 18, 0, 0] S1x16x1x66x66.size inb_S1x16x34x66x66_S1x16x1x66x66_0_0_18_0_0
abbrev r0_37 : Rect S1x34x16x67x70 := Rect.unit (s := S1x34x16x67x70) ![0, 18, 0, 0, 0] S1x1x16x67x70.size inb_S1x34x16x67x70_S1x1x16x67x70_0_18_0_0_0
abbrev r0_38 : Rect S1x16x34x66x66 := Rect.unit (s := S1x16x34x66x66) ![0, 0, 19, 0, 0] S1x16x1x66x66.size inb_S1x16x34x66x66_S1x16x1x66x66_0_0_19_0_0
abbrev r0_39 : Rect S1x34x16x67x70 := Rect.unit (s := S1x34x16x67x70) ![0, 19, 0, 0, 0] S1x1x16x67x70.size inb_S1x34x16x67x70_S1x1x16x67x70_0_19_0_0_0
abbrev r0_40 : Rect S1x16x34x66x66 := Rect.unit (s := S1x16x34x66x66) ![0, 0, 20, 0, 0] S1x16x1x66x66.size inb_S1x16x34x66x66_S1x16x1x66x66_0_0_20_0_0
abbrev r0_41 : Rect S1x34x16x67x70 := Rect.unit (s := S1x34x16x67x70) ![0, 20, 0, 0, 0] S1x1x16x67x70.size inb_S1x34x16x67x70_S1x1x16x67x70_0_20_0_0_0
abbrev r0_42 : Rect S1x16x34x66x66 := Rect.unit (s := S1x16x34x66x66) ![0, 0, 21, 0, 0] S1x16x1x66x66.size inb_S1x16x34x66x66_S1x16x1x66x66_0_0_21_0_0
abbrev r0_43 : Rect S1x34x16x67x70 := Rect.unit (s := S1x34x16x67x70) ![0, 21, 0, 0, 0] S1x1x16x67x70.size inb_S1x34x16x67x70_S1x1x16x67x70_0_21_0_0_0
abbrev r0_44 : Rect S1x16x34x66x66 := Rect.unit (s := S1x16x34x66x66) ![0, 0, 22, 0, 0] S1x16x1x66x66.size inb_S1x16x34x66x66_S1x16x1x66x66_0_0_22_0_0
abbrev r0_45 : Rect S1x34x16x67x70 := Rect.unit (s := S1x34x16x67x70) ![0, 22, 0, 0, 0] S1x1x16x67x70.size inb_S1x34x16x67x70_S1x1x16x67x70_0_22_0_0_0
abbrev r0_46 : Rect S1x16x34x66x66 := Rect.unit (s := S1x16x34x66x66) ![0, 0, 23, 0, 0] S1x16x1x66x66.size inb_S1x16x34x66x66_S1x16x1x66x66_0_0_23_0_0
abbrev r0_47 : Rect S1x34x16x67x70 := Rect.unit (s := S1x34x16x67x70) ![0, 23, 0, 0, 0] S1x1x16x67x70.size inb_S1x34x16x67x70_S1x1x16x67x70_0_23_0_0_0
abbrev r0_48 : Rect S1x16x34x66x66 := Rect.unit (s := S1x16x34x66x66) ![0, 0, 24, 0, 0] S1x16x1x66x66.size inb_S1x16x34x66x66_S1x16x1x66x66_0_0_24_0_0
abbrev r0_49 : Rect S1x34x16x67x70 := Rect.unit (s := S1x34x16x67x70) ![0, 24, 0, 0, 0] S1x1x16x67x70.size inb_S1x34x16x67x70_S1x1x16x67x70_0_24_0_0_0
abbrev r0_50 : Rect S1x16x34x66x66 := Rect.unit (s := S1x16x34x66x66) ![0, 0, 25, 0, 0] S1x16x1x66x66.size inb_S1x16x34x66x66_S1x16x1x66x66_0_0_25_0_0
abbrev r0_51 : Rect S1x34x16x67x70 := Rect.unit (s := S1x34x16x67x70) ![0, 25, 0, 0, 0] S1x1x16x67x70.size inb_S1x34x16x67x70_S1x1x16x67x70_0_25_0_0_0
abbrev r0_52 : Rect S1x16x34x66x66 := Rect.unit (s := S1x16x34x66x66) ![0, 0, 26, 0, 0] S1x16x1x66x66.size inb_S1x16x34x66x66_S1x16x1x66x66_0_0_26_0_0
abbrev r0_53 : Rect S1x34x16x67x70 := Rect.unit (s := S1x34x16x67x70) ![0, 26, 0, 0, 0] S1x1x16x67x70.size inb_S1x34x16x67x70_S1x1x16x67x70_0_26_0_0_0
abbrev r0_54 : Rect S1x16x34x66x66 := Rect.unit (s := S1x16x34x66x66) ![0, 0, 27, 0, 0] S1x16x1x66x66.size inb_S1x16x34x66x66_S1x16x1x66x66_0_0_27_0_0
abbrev r0_55 : Rect S1x34x16x67x70 := Rect.unit (s := S1x34x16x67x70) ![0, 27, 0, 0, 0] S1x1x16x67x70.size inb_S1x34x16x67x70_S1x1x16x67x70_0_27_0_0_0
abbrev r0_56 : Rect S1x16x34x66x66 := Rect.unit (s := S1x16x34x66x66) ![0, 0, 28, 0, 0] S1x16x1x66x66.size inb_S1x16x34x66x66_S1x16x1x66x66_0_0_28_0_0
abbrev r0_57 : Rect S1x34x16x67x70 := Rect.unit (s := S1x34x16x67x70) ![0, 28, 0, 0, 0] S1x1x16x67x70.size inb_S1x34x16x67x70_S1x1x16x67x70_0_28_0_0_0
abbrev r0_58 : Rect S1x16x34x66x66 := Rect.unit (s := S1x16x34x66x66) ![0, 0, 29, 0, 0] S1x16x1x66x66.size inb_S1x16x34x66x66_S1x16x1x66x66_0_0_29_0_0
abbrev r0_59 : Rect S1x34x16x67x70 := Rect.unit (s := S1x34x16x67x70) ![0, 29, 0, 0, 0] S1x1x16x67x70.size inb_S1x34x16x67x70_S1x1x16x67x70_0_29_0_0_0
abbrev r0_60 : Rect S1x16x34x66x66 := Rect.unit (s := S1x16x34x66x66) ![0, 0, 30, 0, 0] S1x16x1x66x66.size inb_S1x16x34x66x66_S1x16x1x66x66_0_0_30_0_0
abbrev r0_61 : Rect S1x34x16x67x70 := Rect.unit (s := S1x34x16x67x70) ![0, 30, 0, 0, 0] S1x1x16x67x70.size inb_S1x34x16x67x70_S1x1x16x67x70_0_30_0_0_0
abbrev r0_62 : Rect S1x16x34x66x66 := Rect.unit (s := S1x16x34x66x66) ![0, 0, 31, 0, 0] S1x16x1x66x66.size inb_S1x16x34x66x66_S1x16x1x66x66_0_0_31_0_0
abbrev r0_63 : Rect S1x34x16x67x70 := Rect.unit (s := S1x34x16x67x70) ![0, 31, 0, 0, 0] S1x1x16x67x70.size inb_S1x34x16x67x70_S1x1x16x67x70_0_31_0_0_0
abbrev r0_64 : Rect S1x16x34x66x66 := Rect.unit (s := S1x16x34x66x66) ![0, 0, 32, 0, 0] S1x16x1x66x66.size inb_S1x16x34x66x66_S1x16x1x66x66_0_0_32_0_0
abbrev r0_65 : Rect S1x34x16x67x70 := Rect.unit (s := S1x34x16x67x70) ![0, 32, 0, 0, 0] S1x1x16x67x70.size inb_S1x34x16x67x70_S1x1x16x67x70_0_32_0_0_0
abbrev r0_66 : Rect S1x16x34x66x66 := Rect.unit (s := S1x16x34x66x66) ![0, 0, 33, 0, 0] S1x16x1x66x66.size inb_S1x16x34x66x66_S1x16x1x66x66_0_0_33_0_0
abbrev r0_67 : Rect S1x34x16x67x70 := Rect.unit (s := S1x34x16x67x70) ![0, 33, 0, 0, 0] S1x1x16x67x70.size inb_S1x34x16x67x70_S1x1x16x67x70_0_33_0_0_0

/-- What the layout kernel leaves in its output block: the stores of the thirty-four depth slabs. -/
def out0_1 (x0 : Vec F S1x16x34x66x66 .f32) : Vec F S1x34x16x67x70 .bf16 :=
  View.canon [⟨r0_67, k0_pay1 (k0_pay45 (View.ld x0 r0_66))⟩,
    ⟨r0_65, k0_pay44 (View.ld x0 r0_64)⟩,
    ⟨r0_63, k0_pay43 (View.ld x0 r0_62)⟩,
    ⟨r0_61, k0_pay42 (View.ld x0 r0_60)⟩,
    ⟨r0_59, k0_pay41 (View.ld x0 r0_58)⟩,
    ⟨r0_57, k0_pay40 (k0_pay39 (View.ld x0 r0_56))⟩,
    ⟨r0_55, k0_pay38 (View.ld x0 r0_54)⟩,
    ⟨r0_53, k0_pay37 (View.ld x0 r0_52)⟩,
    ⟨r0_51, k0_pay36 (View.ld x0 r0_50)⟩,
    ⟨r0_49, k0_pay35 (View.ld x0 r0_48)⟩,
    ⟨r0_47, k0_pay34 (k0_pay32 (View.ld x0 r0_46)) (k0_pay33 (F := F))⟩,
    ⟨r0_45, k0_pay31 (View.ld x0 r0_44)⟩,
    ⟨r0_43, k0_pay30 (View.ld x0 r0_42)⟩,
    ⟨r0_41, k0_pay29 (k0_pay28 (View.ld x0 r0_40))⟩,
    ⟨r0_39, k0_pay27 (View.ld x0 r0_38)⟩,
    ⟨r0_37, k0_pay26 (View.ld x0 r0_36)⟩,
    ⟨r0_35, k0_pay25 (View.ld x0 r0_34)⟩,
    ⟨r0_33, k0_pay24 (View.ld x0 r0_32)⟩,
    ⟨r0_31, k0_pay23 (k0_pay22 (View.ld x0 r0_30))⟩,
    ⟨r0_29, k0_pay21 (View.ld x0 r0_28)⟩,
    ⟨r0_27, k0_pay20 (View.ld x0 r0_26)⟩,
    ⟨r0_25, k0_pay19 (View.ld x0 r0_24)⟩,
    ⟨r0_23, k0_pay18 (View.ld x0 r0_22)⟩,
    ⟨r0_21, k0_pay17 (k0_pay16 (View.ld x0 r0_20)) 0#32⟩,
    ⟨r0_19, k0_pay15 (View.ld x0 r0_18)⟩,
    ⟨r0_17, k0_pay14 (View.ld x0 r0_16)⟩,
    ⟨r0_15, k0_pay13 (k0_pay12 (View.ld x0 r0_14))⟩,
    ⟨r0_13, k0_pay11 (View.ld x0 r0_12)⟩,
    ⟨r0_11, k0_pay10 (View.ld x0 r0_10)⟩,
    ⟨r0_9, k0_pay9 (View.ld x0 r0_8)⟩,
    ⟨r0_7, k0_pay8 (View.ld x0 r0_6)⟩,
    ⟨r0_5, k0_pay7 (k0_pay5 (View.ld x0 r0_4)) (k0_pay6 (F := F))⟩,
    ⟨r0_3, k0_pay3 (View.ld x0 r0_2)⟩,
    ⟨r0_1, k0_pay2 (View.ld x0 r0_0)⟩]

/-- The layout kernel's stores cover the whole output block. -/
theorem cover0_1 (p0 : Vec F S1x1x16x67x70 .bf16) (p1 : Vec F S1x1x16x67x70 .bf16) (p2 : Vec F S1x1x16x67x70 .bf16) (p3 : Vec F S1x1x16x67x70 .bf16) (p4 : Vec F S1x1x16x67x70 .bf16) (p5 : Vec F S1x1x16x67x70 .bf16) (p6 : Vec F S1x1x16x67x70 .bf16) (p7 : Vec F S1x1x16x67x70 .bf16) (p8 : Vec F S1x1x16x67x70 .bf16) (p9 : Vec F S1x1x16x67x70 .bf16) (p10 : Vec F S1x1x16x67x70 .bf16) (p11 : Vec F S1x1x16x67x70 .bf16) (p12 : Vec F S1x1x16x67x70 .bf16) (p13 : Vec F S1x1x16x67x70 .bf16) (p14 : Vec F S1x1x16x67x70 .bf16) (p15 : Vec F S1x1x16x67x70 .bf16) (p16 : Vec F S1x1x16x67x70 .bf16) (p17 : Vec F S1x1x16x67x70 .bf16) (p18 : Vec F S1x1x16x67x70 .bf16) (p19 : Vec F S1x1x16x67x70 .bf16) (p20 : Vec F S1x1x16x67x70 .bf16) (p21 : Vec F S1x1x16x67x70 .bf16) (p22 : Vec F S1x1x16x67x70 .bf16) (p23 : Vec F S1x1x16x67x70 .bf16) (p24 : Vec F S1x1x16x67x70 .bf16) (p25 : Vec F S1x1x16x67x70 .bf16) (p26 : Vec F S1x1x16x67x70 .bf16) (p27 : Vec F S1x1x16x67x70 .bf16) (p28 : Vec F S1x1x16x67x70 .bf16) (p29 : Vec F S1x1x16x67x70 .bf16) (p30 : Vec F S1x1x16x67x70 .bf16) (p31 : Vec F S1x1x16x67x70 .bf16) (p32 : Vec F S1x1x16x67x70 .bf16) (p33 : Vec F S1x1x16x67x70 .bf16) (y : S1x34x16x67x70.Idx) :
    ∃ pc ∈ ([⟨r0_67, p0⟩, ⟨r0_65, p1⟩, ⟨r0_63, p2⟩, ⟨r0_61, p3⟩, ⟨r0_59, p4⟩, ⟨r0_57, p5⟩, ⟨r0_55, p6⟩, ⟨r0_53, p7⟩, ⟨r0_51, p8⟩, ⟨r0_49, p9⟩, ⟨r0_47, p10⟩, ⟨r0_45, p11⟩, ⟨r0_43, p12⟩, ⟨r0_41, p13⟩, ⟨r0_39, p14⟩, ⟨r0_37, p15⟩, ⟨r0_35, p16⟩, ⟨r0_33, p17⟩, ⟨r0_31, p18⟩, ⟨r0_29, p19⟩, ⟨r0_27, p20⟩, ⟨r0_25, p21⟩, ⟨r0_23, p22⟩, ⟨r0_21, p23⟩, ⟨r0_19, p24⟩, ⟨r0_17, p25⟩, ⟨r0_15, p26⟩, ⟨r0_13, p27⟩, ⟨r0_11, p28⟩, ⟨r0_9, p29⟩, ⟨r0_7, p30⟩, ⟨r0_5, p31⟩, ⟨r0_3, p32⟩, ⟨r0_1, p33⟩] : List (View.Piece (Elt F) S1x34x16x67x70 .bf16)), y ∈ pc.1.set :=
  View.cover_of_tiled [⟨r0_67, p0⟩, ⟨r0_65, p1⟩, ⟨r0_63, p2⟩, ⟨r0_61, p3⟩, ⟨r0_59, p4⟩, ⟨r0_57, p5⟩, ⟨r0_55, p6⟩, ⟨r0_53, p7⟩, ⟨r0_51, p8⟩, ⟨r0_49, p9⟩, ⟨r0_47, p10⟩, ⟨r0_45, p11⟩, ⟨r0_43, p12⟩, ⟨r0_41, p13⟩, ⟨r0_39, p14⟩, ⟨r0_37, p15⟩, ⟨r0_35, p16⟩, ⟨r0_33, p17⟩, ⟨r0_31, p18⟩, ⟨r0_29, p19⟩, ⟨r0_27, p20⟩, ⟨r0_25, p21⟩, ⟨r0_23, p22⟩, ⟨r0_21, p23⟩, ⟨r0_19, p24⟩, ⟨r0_17, p25⟩, ⟨r0_15, p26⟩, ⟨r0_13, p27⟩, ⟨r0_11, p28⟩, ⟨r0_9, p29⟩, ⟨r0_7, p30⟩, ⟨r0_5, p31⟩, ⟨r0_3, p32⟩, ⟨r0_1, p33⟩] S1x1x16x67x70.size (by rfl) y

set_option maxHeartbeats 1000000 in
/-- The layout kernel's body, run on whole buffers, ends with `out0_1` of its input block in its output block. -/
theorem sound_kernel0 (c : Dev nD) (E : Set ℕ) (i : grid0.Coords) (arg1 : Memref sig .tc .vmem S1x16x34x66x66 .f32) (harg1 : arg1.IsWhole) (arg2 : Memref sig .tc .vmem S1x34x16x67x70 .bf16) (harg2 : arg2.IsWhole)
    (x0 : Vec F S1x16x34x66x66 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__fmt_kernel i arg1 harg1 arg2 harg2) K := by
  simp only [cc0__fmt_kernel_eq_skeleton]; unfold cc0__fmt_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _ _ _ _ _ _ _ _ _ _ _ _ _ _ _ _ _ _ _ _ _ _ _ _ _ _ _ _ _ _ _)

/-- The layout kernel's schedule: the arrays it starts from and what each point leaves in each window. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The schedule starts from the contents given. -/
theorem A_eq0 (c : Dev nD) (w : Fin cfg0.W) : (dat0 V c).A w = V c (Pipeline.arrRef spec0 w) := by
  dsimp only [dat0]

/-- A point leaves the input block as it was. -/
theorem after0_0 (c : Dev nD) (t : Fin cfg0.N) : (dat0 V c).after 0 t = iblk0 V c 0 t := by dsimp only [dat0]
/-- A point leaves `out0_1` of its input block in the output block. -/
theorem after0_1 (c : Dev nD) (t : Fin cfg0.N) : (dat0 V c).after 1 t = out0_1 (iblk0 V c 0 t) := by dsimp only [dat0]

/-- The input window holds its block when the body starts. -/
theorem before0_0 (c : Dev nD) (t : Fin cfg0.N) (d) : (dat0 V c).before 0 t d = iblk0 V c 0 t :=
  before0_0_of V (dat0 V c) (A_eq0 V c 0) (after0_0 V c) t d

/-- What a point's body is given. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What a point's body gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- Every point's body turns what it is given into what it has to give back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The table of bodies holds this kernel's body at every point. -/
theorem defs₀_row0 (t : Fin cfg0.N) :
    defs₀ (F := F) .tc cfg0.body (cfg0.bodyArgs t (cfg0.slots t)) = bodyAt0 t := by
  unfold defs₀; rw [Defs.onTc_tc]

/-- The body's obligation towards the pipeline, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.ConvRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 1: the convolution kernel. Its windows, its branch condition, and its scratch buffer. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of a window's array that a grid point reads. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block when the body starts, for any schedule whose body leaves the block there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block when the body starts, for any schedule whose body leaves the block there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block when the body starts, for any schedule whose body leaves the block there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block when the body starts, for any schedule whose body leaves the block there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block when the body starts, for any schedule whose body leaves the block there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block when the body starts, for any schedule whose body leaves the block there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds its block when the body starts, for any schedule whose body leaves the block there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The body's branch condition, as it computes it from the second grid coordinate. -/
abbrev cond1_0 (i : grid1.Coords) : Prop := (Scalar.cmpi .ne (Scalar.extui (Scalar.cmpi .eq (BitVec.ofNat 32 (i 1).val) 0#32)) 0#32) = 1#1
/-- The branch is taken at the first of the sixteen points of each batch entry. -/
theorem hcond1_0 : ∀ t : Fin cfg1.N, cond1_0 (grid1.coords t) ↔ t.val % 16 = 0 :=
  (fun t => by
    have ht : t.val < 128 := Nat.lt_of_lt_of_eq t.isLt N_1
    have e0 : (grid1.coords t 0).val = t.val / 16 % 8 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-- The output window's buffer as a view. -/
abbrev VO1_7 : View sig .tc .vmem S1x32x128 .f32 := (Memref.whole cc1_stg7_0 : Memref sig .tc .vmem S1x32x128 .f32).view
/-- The staging buffer of this window at a point. -/
abbrev ms1_0 (t : Fin cfg1.N) : Memref sig .tc .vmem S1x1x16x4690 .bf16 := win1_0.stage (cfg1.slots t 0)
/-- That staging buffer is a whole one. -/
abbrev hs1_0 (t : Fin cfg1.N) : (ms1_0 t).IsWhole := hstage1_0 ((cfg1.slots t 0).cast nbuf1_0)
/-- The staging buffer of this window at a point. -/
abbrev ms1_1 (t : Fin cfg1.N) : Memref sig .tc .vmem S1x1x16x4690 .bf16 := win1_1.stage (cfg1.slots t 1)
/-- That staging buffer is a whole one. -/
abbrev hs1_1 (t : Fin cfg1.N) : (ms1_1 t).IsWhole := hstage1_1 ((cfg1.slots t 1).cast nbuf1_1)
/-- The staging buffer of this window at a point. -/
abbrev ms1_2 (t : Fin cfg1.N) : Memref sig .tc .vmem S1x1x16x4690 .bf16 := win1_2.stage (cfg1.slots t 2)
/-- That staging buffer is a whole one. -/
abbrev hs1_2 (t : Fin cfg1.N) : (ms1_2 t).IsWhole := hstage1_2 ((cfg1.slots t 2).cast nbuf1_2)
/-- The staging buffer of this window at a point. -/
abbrev ms1_3 (t : Fin cfg1.N) : Memref sig .tc .vmem S1x1x16x4690 .bf16 := win1_3.stage (cfg1.slots t 3)
/-- That staging buffer is a whole one. -/
abbrev hs1_3 (t : Fin cfg1.N) : (ms1_3 t).IsWhole := hstage1_3 ((cfg1.slots t 3).cast nbuf1_3)
/-- The staging buffer of this window at a point. -/
abbrev ms1_4 (t : Fin cfg1.N) : Memref sig .tc .vmem S96x144 .bf16 := win1_4.stage (cfg1.slots t 4)
/-- That staging buffer is a whole one. -/
abbrev hs1_4 (t : Fin cfg1.N) : (ms1_4 t).IsWhole := hstage1_4 ((cfg1.slots t 4).cast nbuf1_4)
/-- The staging buffer of this window at a point. -/
abbrev ms1_5 (t : Fin cfg1.N) : Memref sig .tc .vmem S32x1 .f32 := win1_5.stage (cfg1.slots t 5)
/-- That staging buffer is a whole one. -/
abbrev hs1_5 (t : Fin cfg1.N) : (ms1_5 t).IsWhole := hstage1_5 ((cfg1.slots t 5).cast nbuf1_5)
/-- The staging buffer of this window at a point. -/
abbrev ms1_6 (t : Fin cfg1.N) : Memref sig .tc .vmem S4480x128 .bf16 := win1_6.stage (cfg1.slots t 6)
/-- That staging buffer is a whole one. -/
abbrev hs1_6 (t : Fin cfg1.N) : (ms1_6 t).IsWhole := hstage1_6 ((cfg1.slots t 6).cast nbuf1_6)
/-- The staging buffer of this window at a point. -/
abbrev ms1_7 (t : Fin cfg1.N) : Memref sig .tc .vmem S1x32x128 .f32 := win1_7.stage (cfg1.slots t 7)
/-- That staging buffer is a whole one. -/
abbrev hs1_7 (t : Fin cfg1.N) : (ms1_7 t).IsWhole := hstage1_7 ((cfg1.slots t 7).cast nbuf1_7)
/-- The scratch buffer. -/
abbrev scM1_0 : Memref sig .tc .vmem S2x96x4480 .f32 := Memref.whole cc1_scratch0

/-- What the pipeline holds besides its windows, buffer by buffer: the other kernel's staging buffers, the scratch, and the generator's register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KernelIdeal.ConvRunA.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.ConvRuns

/-! Region 1: the body at the first point of a batch element, where the scratch is filled and the accumulator reset. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point of a batch entry: the stores it makes into the output window and into the scratch, with the proof that it makes them and gives its inputs back. -/
noncomputable def kernelRun1_A (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) :
    Σ' (L7 : List (View.Piece (Elt F) S1x32x128 .f32)), { LS0 : List (View.Piece (Elt F) S2x96x4480 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__kernel i arg2 harg2 arg3 harg3 arg4 harg4 arg5 harg5 arg6 harg6 arg7 harg7 arg8 harg8 arg9 harg9 arg10 harg10) K } := by
  refine ⟨?_, ?_, fun E K => ?run⟩
  case run =>
    simp only [cc1__kernel_eq_skeleton]; unfold cc1__kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KernelIdeal.ConvRunB.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.ConvRuns

/-! Region 1: the body at every other point, over the scratch and accumulator the point before left. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at every other point: the stores it makes into the output window and into the scratch, with the proof that it makes them and gives its inputs back. -/
noncomputable def kernelRun1_B (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : ¬cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (xo7 : Vec F S1x32x128 .f32) (xs0 : Vec F S2x96x4480 .f32) :
    Σ' (L7 : List (View.Piece (Elt F) S1x32x128 .f32)), { LS0 : List (View.Piece (Elt F) S2x96x4480 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__kernel i arg2 harg2 arg3 harg3 arg4 harg4 arg5 harg5 arg6 harg6 arg7 harg7 arg8 harg8 arg9 harg9 arg10 harg10) K } := by
  refine ⟨?_, ?_, fun E K => ?run⟩
  case run =>
    simp only [cc1__kernel_eq_skeleton]; unfold cc1__kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KernelIdeal.ConvOuts.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.ConvRunA
public import proofs.«01_k».proof.Proof.KernelIdeal.ConvRunB

/-! Region 1: what one point leaves in the output block and in the scratch. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch buffer as a view. -/
abbrev VS1_0 : View sig .tc .vmem S2x96x4480 .f32 := (Memref.whole cc1_scratch0 : Memref sig .tc .vmem S2x96x4480 .f32).view

/-- These stores cover the whole output window. -/
theorem cover1_A_7 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (y : S1x32x128.Idx) :
    ∃ pc ∈ (kernelRun1_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4 x5 x6).1 S1x32x128.size (by sl_kernel_rfl) y

/-- What the first point of a batch entry leaves in the output window. -/
def out1_A_7 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) : Vec F S1x32x128 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 x0 x1 x2 x3 x4 x5 x6).1)

/-- These stores cover the whole scratch. -/
theorem scover1_A_0 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (y : S2x96x4480.Idx) :
    ∃ pc ∈ (kernelRun1_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3 x4 x5 x6).2.1 S1x96x4480.size (by sl_kernel_rfl) y

/-- What the first point of a batch entry leaves in the scratch. -/
def sout1_A_0 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) : Vec F S2x96x4480 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 x0 x1 x2 x3 x4 x5 x6).2.1)

/-- These stores cover the whole output window. -/
theorem cover1_B_7 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : ¬cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (xo7 : Vec F S1x32x128 .f32) (xs0 : Vec F S2x96x4480 .f32) (y : S1x32x128.Idx) :
    ∃ pc ∈ (kernelRun1_B c i arg2 harg2 arg3 harg3 arg4 harg4 arg5 harg5 arg6 harg6 arg7 harg7 arg8 harg8 arg9 harg9 arg10 harg10 hc0 x0 x1 x2 x3 x4 x5 x6 xo7 xs0).1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 x5 x6 xo7 xs0).1 S1x32x128.size (by sl_kernel_rfl) y

/-- What every other point leaves in the output window. -/
def out1_B_7 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : ¬cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (xo7 : Vec F S1x32x128 .f32) (xs0 : Vec F S2x96x4480 .f32) : Vec F S1x32x128 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 hc0 x0 x1 x2 x3 x4 x5 x6 xo7 xs0).1)

/-- These stores cover the whole scratch. -/
theorem scover1_B_0 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : ¬cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (xo7 : Vec F S1x32x128 .f32) (xs0 : Vec F S2x96x4480 .f32) (y : S2x96x4480.Idx) :
    ∃ pc ∈ (kernelRun1_B c i arg2 harg2 arg3 harg3 arg4 harg4 arg5 harg5 arg6 harg6 arg7 harg7 arg8 harg8 arg9 harg9 arg10 harg10 hc0 x0 x1 x2 x3 x4 x5 x6 xo7 xs0).2.1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 x4 x5 x6 xo7 xs0).2.1 S1x96x4480.size (by sl_kernel_rfl) y

/-- What every other point leaves in the scratch. -/
def sout1_B_0 (c : Dev nD) (i : grid1.Coords) (arg2 : Memref sig .tc .vmem S1x1x16x4690 .bf16) (harg2 : arg2.IsWhole) (arg3 : Memref sig .tc .vmem S1x1x16x4690 .bf16) (harg3 : arg3.IsWhole) (arg4 : Memref sig .tc .vmem S1x1x16x4690 .bf16) (harg4 : arg4.IsWhole) (arg5 : Memref sig .tc .vmem S1x1x16x4690 .bf16) (harg5 : arg5.IsWhole) (arg6 : Memref sig .tc .vmem S96x144 .bf16) (harg6 : arg6.IsWhole) (arg7 : Memref sig .tc .vmem S32x1 .f32) (harg7 : arg7.IsWhole) (arg8 : Memref sig .tc .vmem S4480x128 .bf16) (harg8 : arg8.IsWhole) (arg9 : Memref sig .tc .vmem S1x32x128 .f32) (harg9 : arg9.IsWhole) (arg10 : Memref sig .tc .vmem S2x96x4480 .f32) (harg10 : arg10.IsWhole) (hc0 : ¬cond1_0 i)
    (x0 : Vec F S1x1x16x4690 .bf16) (x1 : Vec F S1x1x16x4690 .bf16) (x2 : Vec F S1x1x16x4690 .bf16) (x3 : Vec F S1x1x16x4690 .bf16) (x4 : Vec F S96x144 .bf16) (x5 : Vec F S32x1 .f32) (x6 : Vec F S4480x128 .bf16) (xo7 : Vec F S1x32x128 .f32) (xs0 : Vec F S2x96x4480 .f32) : Vec F S2x96x4480 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 x0 x1 x2 x3 x4 x5 x6 xo7 xs0).2.1)

end Cert.KernelIdeal.Hand

end
-- ==== Proof.KernelIdeal.ConvRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.ConvOuts

/-! Region 1: the contents point by point, the invariant carrying the scratch, and the body obligation. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator and the scratch after each point, by recursion on the point. -/
def outsAt1 (c : Dev nD) : (n : ℕ) → n < cfg1.N → Vec F S1x32x128 .f32 × Vec F S2x96x4480 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).1 (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).1 (outsAt1 c n (Nat.lt_of_succ_lt hn)).2)

/-- At the first point of a batch entry they do not depend on the point before. -/
theorem outsAt1_A (c : Dev nD) (t : Fin cfg1.N) (h0 : t.val % 16 = 0) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans rfl

/-- At every other point they come from those of the point before. -/
theorem outsAt1_B (c : Dev nD) (t : Fin cfg1.N) (h0 : ¬t.val % 16 = 0) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).1 (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What is held between two points: before the first anything, later the scratch with its known contents. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

/-- Before the first point nothing is known of the scratch. -/
theorem PhiS1_zero (c : Dev nD) (n : ℕ) (h : n ≤ cfg1.N) (hz : n = 0) : PhiS1 V c n h = Pipeline.ΦA spec1 c := by
  subst hz; rfl

/-- After a point the scratch holds what that point left. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

/-- After a point the scratch holds what that point left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-- The convolution kernel's schedule: the arrays it starts from, what each point leaves in each window, and the scratch it carries. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q w := Pipeline.shareOf spec1 w
  owed _ := 0

/-- The schedule starts from the contents given. -/
theorem A_eq1 (c : Dev nD) (w : Fin cfg1.W) : (dat1 V c).A w = V c (Pipeline.arrRef spec1 w) := by
  dsimp only [dat1]

/-- The schedule's own invariant before a point is this one. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- A point leaves this input window as it was. -/
theorem after1_0 (c : Dev nD) (t : Fin cfg1.N) : (dat1 V c).after 0 t = iblk1 V c 0 t := by dsimp only [dat1]
/-- A point leaves this input window as it was. -/
theorem after1_1 (c : Dev nD) (t : Fin cfg1.N) : (dat1 V c).after 1 t = iblk1 V c 1 t := by dsimp only [dat1]
/-- A point leaves this input window as it was. -/
theorem after1_2 (c : Dev nD) (t : Fin cfg1.N) : (dat1 V c).after 2 t = iblk1 V c 2 t := by dsimp only [dat1]
/-- A point leaves this input window as it was. -/
theorem after1_3 (c : Dev nD) (t : Fin cfg1.N) : (dat1 V c).after 3 t = iblk1 V c 3 t := by dsimp only [dat1]
/-- A point leaves this input window as it was. -/
theorem after1_4 (c : Dev nD) (t : Fin cfg1.N) : (dat1 V c).after 4 t = iblk1 V c 4 t := by dsimp only [dat1]
/-- A point leaves this input window as it was. -/
theorem after1_5 (c : Dev nD) (t : Fin cfg1.N) : (dat1 V c).after 5 t = iblk1 V c 5 t := by dsimp only [dat1]
/-- A point leaves this input window as it was. -/
theorem after1_6 (c : Dev nD) (t : Fin cfg1.N) : (dat1 V c).after 6 t = iblk1 V c 6 t := by dsimp only [dat1]
/-- A point leaves the accumulator in the output window. -/
theorem after1_7 (c : Dev nD) (t : Fin cfg1.N) : (dat1 V c).after 7 t = (outsAt1 V c t.val t.isLt).1 := by dsimp only [dat1]

/-- The input window holds its block when the body starts. -/
theorem before1_0 (c : Dev nD) (t : Fin cfg1.N) (d) : (dat1 V c).before 0 t d = iblk1 V c 0 t :=
  before1_0_of V (dat1 V c) (A_eq1 V c 0) (after1_0 V c) t d
/-- The input window holds its block when the body starts. -/
theorem before1_1 (c : Dev nD) (t : Fin cfg1.N) (d) : (dat1 V c).before 1 t d = iblk1 V c 1 t :=
  before1_1_of V (dat1 V c) (A_eq1 V c 1) (after1_1 V c) t d
/-- The input window holds its block when the body starts. -/
theorem before1_2 (c : Dev nD) (t : Fin cfg1.N) (d) : (dat1 V c).before 2 t d = iblk1 V c 2 t :=
  before1_2_of V (dat1 V c) (A_eq1 V c 2) (after1_2 V c) t d
/-- The input window holds its block when the body starts. -/
theorem before1_3 (c : Dev nD) (t : Fin cfg1.N) (d) : (dat1 V c).before 3 t d = iblk1 V c 3 t :=
  before1_3_of V (dat1 V c) (A_eq1 V c 3) (after1_3 V c) t d
/-- The input window holds its block when the body starts. -/
theorem before1_4 (c : Dev nD) (t : Fin cfg1.N) (d) : (dat1 V c).before 4 t d = iblk1 V c 4 t :=
  before1_4_of V (dat1 V c) (A_eq1 V c 4) (after1_4 V c) t d
/-- The input window holds its block when the body starts. -/
theorem before1_5 (c : Dev nD) (t : Fin cfg1.N) (d) : (dat1 V c).before 5 t d = iblk1 V c 5 t :=
  before1_5_of V (dat1 V c) (A_eq1 V c 5) (after1_5 V c) t d
/-- The input window holds its block when the body starts. -/
theorem before1_6 (c : Dev nD) (t : Fin cfg1.N) (d) : (dat1 V c).before 6 t d = iblk1 V c 6 t :=
  before1_6_of V (dat1 V c) (A_eq1 V c 6) (after1_6 V c) t d
/-- At a point that continues a batch entry the output window still holds the accumulator of the point before. -/
theorem before1_7_B (c : Dev nD) (t : Fin cfg1.N) (h0 : ¬t.val % 16 = 0) (d) :
    (dat1 V c).before 7 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 7 rfl t (by omega) (Bool.eq_false_iff.mpr fun h => by have := (flush1_7 _).mp h; dsimp only at this; omega)
    (fun _ => rfl) (fun _ _ => rfl)]
  dsimp only [dat1]

/-- What a point's body is given. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What a point's body gives back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 6400000 in
/-- Every point's body turns what it is given into what it has to give back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · by_cases hz : t.val = 0
    · rw [PhiS1_castSucc V c t, PhiS1_zero V c _ _ hz, PhiA1_eq]
      rw [outsAt1_A V c t h0]
      unfold out1_A_7 sout1_A_0; (try dsimp only)
      iintro ⟨⟨⟨HR0, HR1, HR2, HR3, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _)
    · rw [PhiS1_castSucc V c t, PhiS1_pos V c _ _ hz]
      rw [outsAt1_A V c t h0]
      unfold out1_A_7 sout1_A_0; (try dsimp only)
      iintro ⟨⟨⟨HR0, HR1, HR2, HR3, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_A_7 c _ _ _ _ _ _ _ _ _ _ _ _ _ _ _ _ _ _ _ _ _ _ _ _ _ _ _)
  · by_cases hz : t.val = 0
    · exfalso; have hN : t.val < 128 := lt_of_lt_of_eq t.isLt (show cfg1.N = 128 from N_1); omega
    · rw [PhiS1_castSucc V c t, PhiS1_pos V c _ _ hz]
      rw [outsAt1_B V c t h0]
      simp only [before1_7_B V c t h0]
      unfold out1_B_7 sout1_B_0; (try dsimp only)
      iintro ⟨⟨⟨HR0, HR1, HR2, HR3, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, ⟨%e7, H7⟩, ⟨%es0, HS0⟩⟩
      isplitl [HR0 HR1 HR2 HR3 HS0 Hg]
      · isplitl [HR0 HR1 HR2 HR3 HS0]
        · isplitl [HR0]; · iexact HR0
          isplitl [HR1]; · iexact HR1
          isplitl [HR2]; · iexact HR2
          isplitl [HR3]; · iexact HR3
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover1_B_7 c _ _ _ _ _ _ _ _ _ _ _ _ _ _ _ _ _ _ _ _ _ _ _ _ _ _ _ _ _)

/-- The table of bodies holds this kernel's body at every point. -/
theorem defs₀_row1 (t : Fin cfg1.N) :
    defs₀ (F := F) .tc cfg1.body (cfg1.bodyArgs t (cfg1.slots t)) = bodyAt1 t := by
  unfold defs₀; rw [Defs.onTc_tc]

/-- The body's obligation towards the pipeline, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the pipeline holds at first gives the invariant. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- The invariant gives back what the pipeline held, the scratch's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HS0⟩, Hg⟩
  isplitl [HR0 HR1 HR2 HR3 HS0]
  · isplitl [HR0]; · iexact HR0
    isplitl [HR1]; · iexact HR1
    isplitl [HR2]; · iexact HR2
    isplitl [HR3]; · iexact HR3
    iexists _; iexact HS0
  iexact Hg

/-- So it does after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KernelIdeal.Fold.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.FmtRegion
public import proofs.«01_k».proof.Proof.KernelIdeal.ConvRegion

/-! The buffer contents at every boundary of the program, from the launch to the return. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's four arguments. -/
abbrev argRefs : List (Ref sig .tc) := [main_arg0, main_arg1, main_arg2, main_arg3]

/-- No operation of this host stretch allocates. -/
theorem hostOps1_fresh : (hostOps1 : List (HloOp τ sig (Elt F))).Forall fun op => op.fresh = ∅ := by
  simp only [List.Forall]; repeat' constructor
/-- The arrays this host stretch writes. -/
abbrev hostOps1_W : List (Ref sig .tc) := [main_v1, main_v2, main_v3, main_v4, main_v5, main_v6, main_c]
/-- It writes no others. -/
theorem hostOps1_writes : (hostOps1 : List (HloOp τ sig (Elt F))).Forall fun op => op.writes ⊆ (hostOps1_W.map (Proc.devRef (τ := τ) .tc)).toFinset :=
  StableHlo.forall_writes_sub_of_map rfl
/-- None of them is an argument. -/
theorem hostOps1_args : ∀ a ∈ argRefs, a ∉ hostOps1_W := ListAll.forall_mem_of_all_decide (by decide +kernel)

/-- No operation of this host stretch allocates. -/
theorem hostOps1_1_fresh : (hostOps1_1 : List (HloOp τ sig (Elt F))).Forall fun op => op.fresh = ∅ := by
  simp only [List.Forall]; repeat' constructor
/-- The arrays this host stretch writes. -/
abbrev hostOps1_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v7]
/-- It writes no others. -/
theorem hostOps1_1_writes : (hostOps1_1 : List (HloOp τ sig (Elt F))).Forall fun op => op.writes ⊆ (hostOps1_1_W.map (Proc.devRef (τ := τ) .tc)).toFinset :=
  StableHlo.forall_writes_sub_of_map rfl
/-- None of them is an argument. -/
theorem hostOps1_1_args : ∀ a ∈ argRefs, a ∉ hostOps1_1_W := ListAll.forall_mem_of_all_decide (by decide +kernel)

/-- No operation of this host stretch allocates. -/
theorem hostOps1_2_fresh : (hostOps1_2 : List (HloOp τ sig (Elt F))).Forall fun op => op.fresh = ∅ := by
  simp only [List.Forall]; repeat' constructor
/-- The arrays this host stretch writes. -/
abbrev hostOps1_2_W : List (Ref sig .tc) := [main_c_0]
/-- It writes no others. -/
theorem hostOps1_2_writes : (hostOps1_2 : List (HloOp τ sig (Elt F))).Forall fun op => op.writes ⊆ (hostOps1_2_W.map (Proc.devRef (τ := τ) .tc)).toFinset :=
  StableHlo.forall_writes_sub_of_map rfl
/-- None of them is an argument. -/
theorem hostOps1_2_args : ∀ a ∈ argRefs, a ∉ hostOps1_2_W := ListAll.forall_mem_of_all_decide (by decide +kernel)

/-- No operation of this host stretch allocates. -/
theorem hostOps1_3_fresh : (hostOps1_3 : List (HloOp τ sig (Elt F))).Forall fun op => op.fresh = ∅ := by
  simp only [List.Forall]; repeat' constructor
/-- The arrays this host stretch writes. -/
abbrev hostOps1_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v8]
/-- It writes no others. -/
theorem hostOps1_3_writes : (hostOps1_3 : List (HloOp τ sig (Elt F))).Forall fun op => op.writes ⊆ (hostOps1_3_W.map (Proc.devRef (τ := τ) .tc)).toFinset :=
  StableHlo.forall_writes_sub_of_map rfl
/-- None of them is an argument. -/
theorem hostOps1_3_args : ∀ a ∈ argRefs, a ∉ hostOps1_3_W := ListAll.forall_mem_of_all_decide (by decide +kernel)

/-- No operation of this host stretch allocates. -/
theorem hostOps1_4_fresh : (hostOps1_4 : List (HloOp τ sig (Elt F))).Forall fun op => op.fresh = ∅ := by
  simp only [List.Forall]; repeat' constructor
/-- The arrays this host stretch writes. -/
abbrev hostOps1_4_W : List (Ref sig .tc) := [main_c_1]
/-- It writes no others. -/
theorem hostOps1_4_writes : (hostOps1_4 : List (HloOp τ sig (Elt F))).Forall fun op => op.writes ⊆ (hostOps1_4_W.map (Proc.devRef (τ := τ) .tc)).toFinset :=
  StableHlo.forall_writes_sub_of_map rfl
/-- None of them is an argument. -/
theorem hostOps1_4_args : ∀ a ∈ argRefs, a ∉ hostOps1_4_W := ListAll.forall_mem_of_all_decide (by decide +kernel)

/-- No operation of this host stretch allocates. -/
theorem hostOps1_5_fresh : (hostOps1_5 : List (HloOp τ sig (Elt F))).Forall fun op => op.fresh = ∅ := by
  simp only [List.Forall]; repeat' constructor
/-- The arrays this host stretch writes. -/
abbrev hostOps1_5_W : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v9]
/-- It writes no others. -/
theorem hostOps1_5_writes : (hostOps1_5 : List (HloOp τ sig (Elt F))).Forall fun op => op.writes ⊆ (hostOps1_5_W.map (Proc.devRef (τ := τ) .tc)).toFinset :=
  StableHlo.forall_writes_sub_of_map rfl
/-- None of them is an argument. -/
theorem hostOps1_5_args : ∀ a ∈ argRefs, a ∉ hostOps1_5_W := ListAll.forall_mem_of_all_decide (by decide +kernel)

/-- No operation of this host stretch allocates. -/
theorem hostOps1_6_fresh : (hostOps1_6 : List (HloOp τ sig (Elt F))).Forall fun op => op.fresh = ∅ := by
  simp only [List.Forall]; repeat' constructor
/-- The arrays this host stretch writes. -/
abbrev hostOps1_6_W : List (Ref sig .tc) := [main_c_2, main_v10, main_v11, main_c_3]
/-- It writes no others. -/
theorem hostOps1_6_writes : (hostOps1_6 : List (HloOp τ sig (Elt F))).Forall fun op => op.writes ⊆ (hostOps1_6_W.map (Proc.devRef (τ := τ) .tc)).toFinset :=
  StableHlo.forall_writes_sub_of_map rfl
/-- None of them is an argument. -/
theorem hostOps1_6_args : ∀ a ∈ argRefs, a ∉ hostOps1_6_W := ListAll.forall_mem_of_all_decide (by decide +kernel)

/-- No operation of this host stretch allocates. -/
theorem hostOps1_7_fresh : (hostOps1_7 : List (HloOp τ sig (Elt F))).Forall fun op => op.fresh = ∅ := by
  simp only [List.Forall]; repeat' constructor
/-- The arrays this host stretch writes. -/
abbrev hostOps1_7_W : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v12]
/-- It writes no others. -/
theorem hostOps1_7_writes : (hostOps1_7 : List (HloOp τ sig (Elt F))).Forall fun op => op.writes ⊆ (hostOps1_7_W.map (Proc.devRef (τ := τ) .tc)).toFinset :=
  StableHlo.forall_writes_sub_of_map rfl
/-- None of them is an argument. -/
theorem hostOps1_7_args : ∀ a ∈ argRefs, a ∉ hostOps1_7_W := ListAll.forall_mem_of_all_decide (by decide +kernel)

/-- No operation of this host stretch allocates. -/
theorem hostOps1_8_fresh : (hostOps1_8 : List (HloOp τ sig (Elt F))).Forall fun op => op.fresh = ∅ := by
  simp only [List.Forall]; repeat' constructor
/-- The arrays this host stretch writes. -/
abbrev hostOps1_8_W : List (Ref sig .tc) := [main_c_4, main_v13, main_v14, main_v15, main_c_5, main_v16, main_v17, main_v18, main_v19, main_cst, main_v20, main_cst_6, main_v21]
/-- It writes no others. -/
theorem hostOps1_8_writes : (hostOps1_8 : List (HloOp τ sig (Elt F))).Forall fun op => op.writes ⊆ (hostOps1_8_W.map (Proc.devRef (τ := τ) .tc)).toFinset :=
  StableHlo.forall_writes_sub_of_map rfl
/-- None of them is an argument. -/
theorem hostOps1_8_args : ∀ a ∈ argRefs, a ∉ hostOps1_8_W := ListAll.forall_mem_of_all_decide (by decide +kernel)

/-- No operation of this host stretch allocates. -/
theorem hostOps1_9_fresh : (hostOps1_9 : List (HloOp τ sig (Elt F))).Forall fun op => op.fresh = ∅ := by
  simp only [List.Forall]; repeat' constructor
/-- The arrays this host stretch writes. -/
abbrev hostOps1_9_W : List (Ref sig .tc) := [main_call4_v0, main_call4_v1, main_v22]
/-- It writes no others. -/
theorem hostOps1_9_writes : (hostOps1_9 : List (HloOp τ sig (Elt F))).Forall fun op => op.writes ⊆ (hostOps1_9_W.map (Proc.devRef (τ := τ) .tc)).toFinset :=
  StableHlo.forall_writes_sub_of_map rfl
/-- None of them is an argument. -/
theorem hostOps1_9_args : ∀ a ∈ argRefs, a ∉ hostOps1_9_W := ListAll.forall_mem_of_all_decide (by decide +kernel)

/-- No operation of this host stretch allocates. -/
theorem hostOps1_10_fresh : (hostOps1_10 : List (HloOp τ sig (Elt F))).Forall fun op => op.fresh = ∅ := by
  simp only [List.Forall]; repeat' constructor
/-- The arrays this host stretch writes. -/
abbrev hostOps1_10_W : List (Ref sig .tc) := [main_v23]
/-- It writes no others. -/
theorem hostOps1_10_writes : (hostOps1_10 : List (HloOp τ sig (Elt F))).Forall fun op => op.writes ⊆ (hostOps1_10_W.map (Proc.devRef (τ := τ) .tc)).toFinset :=
  StableHlo.forall_writes_sub_of_map rfl
/-- None of them is an argument. -/
theorem hostOps1_10_args : ∀ a ∈ argRefs, a ∉ hostOps1_10_W := ListAll.forall_mem_of_all_decide (by decide +kernel)

/-- No operation of this host stretch allocates. -/
theorem hostOps2_fresh : (hostOps2 : List (HloOp τ sig (Elt F))).Forall fun op => op.fresh = ∅ := by
  simp only [List.Forall]; repeat' constructor
/-- The arrays this host stretch writes. -/
abbrev hostOps2_W : List (Ref sig .tc) := [main_v25, main_v26, main_cst_7, main_v27, main_cst_8, main_v28, main_v29, main_cst_9, main_v30, main_v31, main_v32, main_v33]
/-- It writes no others. -/
theorem hostOps2_writes : (hostOps2 : List (HloOp τ sig (Elt F))).Forall fun op => op.writes ⊆ (hostOps2_W.map (Proc.devRef (τ := τ) .tc)).toFinset :=
  StableHlo.forall_writes_sub_of_map rfl
/-- None of them is an argument. -/
theorem hostOps2_args : ∀ a ∈ argRefs, a ∉ hostOps2_W := ListAll.forall_mem_of_all_decide (by decide +kernel)

/-- The contents at the launch. -/
abbrev W0 : Dev nD → Valuation τ sig (Elt F) := fun c b => (s₀ m ρ).mem ((c : Dev nD), b)
/-- The arguments are as they were at the launch. -/
theorem W0_args (c : Dev nD) : ∀ a ∈ argRefs, W0 m ρ c (Proc.devRef .tc a) = m ((c : Thread nD τ).loc a) := fun _ _ => rfl
/-- The contents the layout kernel starts from. -/
abbrev V0 : (c : Dev nD) → (b : Ref sig .tc) → Buf (Elt F) ((c : Thread nD τ).loc b) := fun c b => W0 m ρ c b
/-- The contents after the layout kernel. -/
def W1 (c : Dev nD) : Valuation τ sig (Elt F) :=
  Pipeline.withArrays spec0 c (W0 m ρ c) fun w => (dat0 (V0 m ρ) c).arrAt w cfg0.N
/-- A window's array holds what the schedule says. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- An array of no window is as it was. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An array that is no output is as it was. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- No argument is an output of the kernel. -/
theorem argsIn0 : ∀ a ∈ argRefs, ∀ w : Fin cfg0.W, Pipeline.arrRef spec0 w = a → (cfg0.win w).isOut = false :=
  ListAll.forall_mem_of_all_decide (by decide +kernel)
/-- The arguments are as they were at the launch. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The contents the layout kernel leaves. -/
abbrev V1 : (c : Dev nD) → (b : Ref sig .tc) → Buf (Elt F) ((c : Thread nD τ).loc b) := fun c b => W1 m ρ c b
/-- The contents the kernel leaves are its schedule's final arrays. -/
theorem hF0 (c : Dev nD) (w : Fin cfg0.W) : (dat0 (V0 m ρ) c).arrAt w cfg0.N = V1 m ρ c (Pipeline.arrRef spec0 w) :=
  (W1_arr m ρ c w).symm
/-- The kernel leaves every other array as it was. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The contents after the next host stretch. -/
abbrev W2 : Dev nD → Valuation τ sig (Elt F) := fun c => StableHlo.after hostOps1 (W1 m ρ c)
/-- An array the stretch does not write is as it was. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- The arguments are as they were at the launch. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The contents after the next host stretch. -/
abbrev W3 : Dev nD → Valuation τ sig (Elt F) := fun c => StableHlo.after hostOps1_1 (W2 m ρ c)
/-- An array the stretch does not write is as it was. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
/-- The arguments are as they were at the launch. -/
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- The contents after the next host stretch. -/
abbrev W4 : Dev nD → Valuation τ sig (Elt F) := fun c => StableHlo.after hostOps1_2 (W3 m ρ c)
/-- An array the stretch does not write is as it was. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
/-- The arguments are as they were at the launch. -/
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- The contents after the next host stretch. -/
abbrev W5 : Dev nD → Valuation τ sig (Elt F) := fun c => StableHlo.after hostOps1_3 (W4 m ρ c)
/-- An array the stretch does not write is as it was. -/
theorem W5_of (c : Dev nD) (r : Ref sig .tc) (h : r ∉ hostOps1_3_W) : W5 m ρ c (Proc.devRef .tc r) = W4 m ρ c (Proc.devRef .tc r) :=
  StableHlo.after_of_writes_sub hostOps1_3 _ hostOps1_3_writes h
/-- The arguments are as they were at the launch. -/
theorem W5_args (c : Dev nD) : ∀ a ∈ argRefs, W5 m ρ c (Proc.devRef .tc a) = m ((c : Thread nD τ).loc a) :=
  fun a ha => (W5_of m ρ c a (hostOps1_3_args a ha)).trans (W4_args m ρ c a ha)
/-- The contents after the next host stretch. -/
abbrev W6 : Dev nD → Valuation τ sig (Elt F) := fun c => StableHlo.after hostOps1_4 (W5 m ρ c)
/-- An array the stretch does not write is as it was. -/
theorem W6_of (c : Dev nD) (r : Ref sig .tc) (h : r ∉ hostOps1_4_W) : W6 m ρ c (Proc.devRef .tc r) = W5 m ρ c (Proc.devRef .tc r) :=
  StableHlo.after_of_writes_sub hostOps1_4 _ hostOps1_4_writes h
/-- The arguments are as they were at the launch. -/
theorem W6_args (c : Dev nD) : ∀ a ∈ argRefs, W6 m ρ c (Proc.devRef .tc a) = m ((c : Thread nD τ).loc a) :=
  fun a ha => (W6_of m ρ c a (hostOps1_4_args a ha)).trans (W5_args m ρ c a ha)
/-- The contents after the next host stretch. -/
abbrev W7 : Dev nD → Valuation τ sig (Elt F) := fun c => StableHlo.after hostOps1_5 (W6 m ρ c)
/-- An array the stretch does not write is as it was. -/
theorem W7_of (c : Dev nD) (r : Ref sig .tc) (h : r ∉ hostOps1_5_W) : W7 m ρ c (Proc.devRef .tc r) = W6 m ρ c (Proc.devRef .tc r) :=
  StableHlo.after_of_writes_sub hostOps1_5 _ hostOps1_5_writes h
/-- The arguments are as they were at the launch. -/
theorem W7_args (c : Dev nD) : ∀ a ∈ argRefs, W7 m ρ c (Proc.devRef .tc a) = m ((c : Thread nD τ).loc a) :=
  fun a ha => (W7_of m ρ c a (hostOps1_5_args a ha)).trans (W6_args m ρ c a ha)
/-- The contents after the next host stretch. -/
abbrev W8 : Dev nD → Valuation τ sig (Elt F) := fun c => StableHlo.after hostOps1_6 (W7 m ρ c)
/-- An array the stretch does not write is as it was. -/
theorem W8_of (c : Dev nD) (r : Ref sig .tc) (h : r ∉ hostOps1_6_W) : W8 m ρ c (Proc.devRef .tc r) = W7 m ρ c (Proc.devRef .tc r) :=
  StableHlo.after_of_writes_sub hostOps1_6 _ hostOps1_6_writes h
/-- The arguments are as they were at the launch. -/
theorem W8_args (c : Dev nD) : ∀ a ∈ argRefs, W8 m ρ c (Proc.devRef .tc a) = m ((c : Thread nD τ).loc a) :=
  fun a ha => (W8_of m ρ c a (hostOps1_6_args a ha)).trans (W7_args m ρ c a ha)
/-- The contents after the next host stretch. -/
abbrev W9 : Dev nD → Valuation τ sig (Elt F) := fun c => StableHlo.after hostOps1_7 (W8 m ρ c)
/-- An array the stretch does not write is as it was. -/
theorem W9_of (c : Dev nD) (r : Ref sig .tc) (h : r ∉ hostOps1_7_W) : W9 m ρ c (Proc.devRef .tc r) = W8 m ρ c (Proc.devRef .tc r) :=
  StableHlo.after_of_writes_sub hostOps1_7 _ hostOps1_7_writes h
/-- The arguments are as they were at the launch. -/
theorem W9_args (c : Dev nD) : ∀ a ∈ argRefs, W9 m ρ c (Proc.devRef .tc a) = m ((c : Thread nD τ).loc a) :=
  fun a ha => (W9_of m ρ c a (hostOps1_7_args a ha)).trans (W8_args m ρ c a ha)
/-- The contents after the next host stretch. -/
abbrev W10 : Dev nD → Valuation τ sig (Elt F) := fun c => StableHlo.after hostOps1_8 (W9 m ρ c)
/-- An array the stretch does not write is as it was. -/
theorem W10_of (c : Dev nD) (r : Ref sig .tc) (h : r ∉ hostOps1_8_W) : W10 m ρ c (Proc.devRef .tc r) = W9 m ρ c (Proc.devRef .tc r) :=
  StableHlo.after_of_writes_sub hostOps1_8 _ hostOps1_8_writes h
/-- The arguments are as they were at the launch. -/
theorem W10_args (c : Dev nD) : ∀ a ∈ argRefs, W10 m ρ c (Proc.devRef .tc a) = m ((c : Thread nD τ).loc a) :=
  fun a ha => (W10_of m ρ c a (hostOps1_8_args a ha)).trans (W9_args m ρ c a ha)
/-- The contents after the next host stretch. -/
abbrev W11 : Dev nD → Valuation τ sig (Elt F) := fun c => StableHlo.after hostOps1_9 (W10 m ρ c)
/-- An array the stretch does not write is as it was. -/
theorem W11_of (c : Dev nD) (r : Ref sig .tc) (h : r ∉ hostOps1_9_W) : W11 m ρ c (Proc.devRef .tc r) = W10 m ρ c (Proc.devRef .tc r) :=
  StableHlo.after_of_writes_sub hostOps1_9 _ hostOps1_9_writes h
/-- The arguments are as they were at the launch. -/
theorem W11_args (c : Dev nD) : ∀ a ∈ argRefs, W11 m ρ c (Proc.devRef .tc a) = m ((c : Thread nD τ).loc a) :=
  fun a ha => (W11_of m ρ c a (hostOps1_9_args a ha)).trans (W10_args m ρ c a ha)
/-- The contents after the next host stretch. -/
abbrev W12 : Dev nD → Valuation τ sig (Elt F) := fun c => StableHlo.after hostOps1_10 (W11 m ρ c)
/-- An array the stretch does not write is as it was. -/
theorem W12_of (c : Dev nD) (r : Ref sig .tc) (h : r ∉ hostOps1_10_W) : W12 m ρ c (Proc.devRef .tc r) = W11 m ρ c (Proc.devRef .tc r) :=
  StableHlo.after_of_writes_sub hostOps1_10 _ hostOps1_10_writes h
/-- The arguments are as they were at the launch. -/
theorem W12_args (c : Dev nD) : ∀ a ∈ argRefs, W12 m ρ c (Proc.devRef .tc a) = m ((c : Thread nD τ).loc a) :=
  fun a ha => (W12_of m ρ c a (hostOps1_10_args a ha)).trans (W11_args m ρ c a ha)
/-- The contents the convolution kernel starts from. -/
abbrev V12 : (c : Dev nD) → (b : Ref sig .tc) → Buf (Elt F) ((c : Thread nD τ).loc b) := fun c b => W12 m ρ c b
/-- The contents after the convolution kernel. -/
def W13 (c : Dev nD) : Valuation τ sig (Elt F) :=
  Pipeline.withArrays spec1 c (W12 m ρ c) fun w => (dat1 (V12 m ρ) c).arrAt w cfg1.N
/-- A window's array holds what the schedule says. -/
theorem W13_arr (c : Dev nD) (w : Fin cfg1.W) :
    W13 m ρ c (Proc.devRef .tc (Pipeline.arrRef spec1 w)) = (dat1 (V12 m ρ) c).arrAt w cfg1.N := by
  unfold W13; exact (dat1 (V12 m ρ) c).withArrays_arrAt launch₀1.sharedIn _ (A_eq1 (V12 m ρ) c) w
/-- An array of no window is as it was. -/
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
/-- An array that is no output is as it was. -/
theorem W13_of (c : Dev nD) (r : Ref sig .tc) (h : ∀ w : Fin cfg1.W, Pipeline.arrRef spec1 w = r → (cfg1.win w).isOut = false) :
    W13 m ρ c (Proc.devRef .tc r) = W12 m ρ c (Proc.devRef .tc r) := by
  by_cases hw : ∃ w : Fin cfg1.W, Pipeline.arrRef spec1 w = r
  · obtain ⟨w, rfl⟩ := hw
    exact (W13_arr m ρ c w).trans (((dat1 (V12 m ρ) c).arrAt_in w (h w rfl) _).trans (A_eq1 (V12 m ρ) c w))
  · exact W13_of_ne m ρ c r fun w e => hw ⟨w, e⟩
/-- No argument is an output of the kernel. -/
theorem argsIn1 : ∀ a ∈ argRefs, ∀ w : Fin cfg1.W, Pipeline.arrRef spec1 w = a → (cfg1.win w).isOut = false :=
  ListAll.forall_mem_of_all_decide (by decide +kernel)
/-- The arguments are as they were at the launch. -/
theorem W13_args (c : Dev nD) : ∀ a ∈ argRefs, W13 m ρ c (Proc.devRef .tc a) = m ((c : Thread nD τ).loc a) :=
  fun a ha => (W13_of m ρ c a (argsIn1 a ha)).trans (W12_args m ρ c a ha)
/-- The contents the convolution kernel leaves. -/
abbrev V13 : (c : Dev nD) → (b : Ref sig .tc) → Buf (Elt F) ((c : Thread nD τ).loc b) := fun c b => W13 m ρ c b
/-- The contents the kernel leaves are its schedule's final arrays. -/
theorem hF1 (c : Dev nD) (w : Fin cfg1.W) : (dat1 (V12 m ρ) c).arrAt w cfg1.N = V13 m ρ c (Pipeline.arrRef spec1 w) :=
  (W13_arr m ρ c w).symm
/-- The kernel leaves every other array as it was. -/
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)

/-- The contents at the end, after the last host stretch. -/
abbrev W14 : Dev nD → Valuation τ sig (Elt F) := fun c => StableHlo.after hostOps2 (W13 m ρ c)
/-- An array the stretch does not write is as it was. -/
theorem W14_of (c : Dev nD) (r : Ref sig .tc) (h : r ∉ hostOps2_W) : W14 m ρ c (Proc.devRef .tc r) = W13 m ρ c (Proc.devRef .tc r) :=
  StableHlo.after_of_writes_sub hostOps2 _ hostOps2_writes h
/-- The arguments are as they were at the launch. -/
theorem W14_args (c : Dev nD) : ∀ a ∈ argRefs, W14 m ρ c (Proc.devRef .tc a) = m ((c : Thread nD τ).loc a) :=
  fun a ha => (W14_of m ρ c a (hostOps2_args a ha)).trans (W13_args m ρ c a ha)

/-- Argument 0 ends as it began. -/
theorem W14_main_arg0 (c : Dev nD) : W14 m ρ c (Proc.devRef .tc main_arg0) = m ((c : Thread nD τ).loc main_arg0) :=
  W14_args m ρ c main_arg0 (by decide)
/-- Argument 1 ends as it began. -/
theorem W14_main_arg1 (c : Dev nD) : W14 m ρ c (Proc.devRef .tc main_arg1) = m ((c : Thread nD τ).loc main_arg1) :=
  W14_args m ρ c main_arg1 (by decide)
/-- Argument 2 ends as it began. -/
theorem W14_main_arg2 (c : Dev nD) : W14 m ρ c (Proc.devRef .tc main_arg2) = m ((c : Thread nD τ).loc main_arg2) :=
  W14_args m ρ c main_arg2 (by decide)
/-- Argument 3 ends as it began. -/
theorem W14_main_arg3 (c : Dev nD) : W14 m ρ c (Proc.devRef .tc main_arg3) = m ((c : Thread nD τ).loc main_arg3) :=
  W14_args m ρ c main_arg3 (by decide)

end Cert.KernelIdeal.Hand

end
-- ==== Proof.KernelIdeal.Whole.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Fold

/-! The whole program: its two pipelines and its host stretches composed, and what it leaves. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both pipelines are well formed. -/
abbrev adm : (p : Fin 2) → (pcfgs (F := F) p).Adm := fun p => (cfgs p).toPCfg_adm
/-- The two kernels' schedules, each over the contents it starts from. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V12 m ρ) c
/-- No loop of the bodies needs a variant. -/
abbrev 𝒱₀ : Variants := Variants.none
/-- No semaphore carries obligations of its own. -/
abbrev L : GSem nD τ sig → Finset Unit := fun _ => ∅
/-- So their levels are all zero. -/
abbrev lv : GSem nD τ sig → Unit → ℕ := fun _ _ => 0
/-- What rides along with every host stretch: the generator's register and an empty debt. -/
abbrev R (c : Dev nD) : sProp 𝕄 := iprop((∃ r, prngReg c r) ∗ ∃ W, owes (c : Thread nD τ) (0 : CellTallies nD τ sig Unit) W)
/-- A host stretch as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array that is not scoped is among those held between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W14 m ρ c) ∗ ∃ r, prngReg c r)

set_option backward.isDefEq.respectTransparency.types false in
/-- The layout kernel as a segment of the program. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The convolution kernel as a segment of the program. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V12 m ρ c) (A_eq1 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V12 m ρ) c).Φ 0 from rfl]
    iintro ⟨Hp, -, Hr⟩
    iapply (hin1 (V12 m ρ) c)
    unfold Pipeline.ΦA
    isplitl [Hr]; · iexact Hr
    iexact Hp
  hout c := by
    rw [Pipeline.ownSems0_none, show (pdats m ρ 1 c).Φ (Fin.last _) = (dat1 (V12 m ρ) c).Φ (Fin.last cfg1.N) from rfl]
    iintro H
    ihave H := (hout1 (V12 m ρ) c) $$ H
    unfold Pipeline.ΦA
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .host (hseg hostOps1_3 hostOps1_3_sub hostOps1_3_fresh (W4 m ρ)),
    .host (hseg hostOps1_4 hostOps1_4_sub hostOps1_4_fresh (W5 m ρ)),
    .host (hseg hostOps1_5 hostOps1_5_sub hostOps1_5_fresh (W6 m ρ)),
    .host (hseg hostOps1_6 hostOps1_6_sub hostOps1_6_fresh (W7 m ρ)),
    .host (hseg hostOps1_7 hostOps1_7_sub hostOps1_7_fresh (W8 m ρ)),
    .host (hseg hostOps1_8 hostOps1_8_sub hostOps1_8_fresh (W9 m ρ)),
    .host (hseg hostOps1_9 hostOps1_9_sub hostOps1_9_fresh (W10 m ρ)),
    .host (hseg hostOps1_10 hostOps1_10_sub hostOps1_10_fresh (W11 m ρ)),
    .region (reg1 m ρ),
    .host (hseg hostOps2 hostOps2_sub hostOps2_fresh (W13 m ρ)) ]
/-- The program is its segments run in order. -/
theorem main_run (c : Dev nD) : main (F := F) c = Pipeline.Seg.run (segs m ρ) := (main_chain c).trans (by chain_rfl)

/-- Every semaphore belongs to a scope. -/
theorem no_unscoped : ∀ sm : SemLoc sig, sm.isScoped .tc = true := by decide

set_option backward.isDefEq.respectTransparency.types false in
/-- The program terminates without fault from any memory; its result array ends as `W14` says, its arguments end unchanged, and every semaphore ends at zero. -/
theorem run : θ_run defs (onTc (τ := τ) (main (F := F))) ⟨m, fun _ => 0, ρ⟩ (fun r => (∀ c : Dev nD,
      r.2.mem ((c.tc : Thread nD τ).loc main_v33) = W14 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v33 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩), funext fun g => hz g (.inr (no_unscoped g.2))⟩)

end Cert.KernelIdeal.Hand

end
-- ==== Proof.KernelIdeal.FmtPay.lean ====
module

public import proofs.«01_k».proof.Proof.KernelIdeal.FmtRegion
public import Idealize.ShloMosaic.Lib.Pointwise
public import Idealize.ShloMosaic.Lib.Pipeline.ValueKit

/-! Region 0: the array it leaves is the input with depth before channels and zeros past the edges. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The formatted input: depth before channels, zero outside the sixty-six by sixty-six image. -/
def fmtArr (x : FVec Ideal S8x16x34x66x66 .f32) : FVec Ideal S8x34x16x67x70 .bf16 := fun i =>
  if hw : (i 4).val < 66 then
    if hh : (i 3).val < 66 then x (ix5 (i 0) (i 2) (i 1) ⟨(i 3).val, hh⟩ ⟨(i 4).val, hw⟩) else 0
  else 0

/-- One batch entry of the same. -/
def fmtBlk (x : FVec Ideal S1x16x34x66x66 .f32) : FVec Ideal S1x34x16x67x70 .bf16 := fun i =>
  if hw : (i 4).val < 66 then
    if hh : (i 3).val < 66 then x (ix5 0 (i 2) (i 1) ⟨(i 3).val, hh⟩ ⟨(i 4).val, hw⟩) else 0
  else 0

set_option maxHeartbeats 8000000 in
/-- What one point stores, at an index of its block. -/
theorem out0_at (x : FVec Ideal S1x16x34x66x66 .f32) (y : S1x34x16x67x70.Idx) : out0_1 (F := Ideal) x y = fmtBlk x y := by
  have hz : ((((0#32 : BitVec 32).toInt : ℤ) : ℝ) : EReal) = 0 := by simp
  unfold out0_1 fmtBlk
  canon_tiles z h
  all_goals
    open_payloads
    pointwise [h0, h1, h2, h3, h4, hz]
    by_cases hw : (z 4).val < 66
    · by_cases hh : (z 3).val < 66
      · simp only [dif_pos hw, dif_pos hh]
        refine congrArg x ?_
        idx_ext <;> omega
      · simp only [dif_pos hw, dif_neg hh]
    · simp only [dif_neg hw]

end Cert.KernelIdeal.Hand

end
-- ==== Proof.KernelIdeal.FmtVal.lean ====
module

public import proofs.«01_k».proof.Proof.KernelIdeal.FmtPay
public import Idealize.ShloMosaic.Lib.Pointwise
public import Idealize.ShloMosaic.Lib.Pipeline.ValueKit

/-! Region 0 as a whole: its output array is the formatted input. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices at every point. -/
theorem idx0 : ∀ t : Fin cfg0.N, win0_0.index t = ![t.val, 0, 0, 0, 0] ∧ win0_1.index t = ![t.val, 0, 0, 0, 0] :=
  (by decide +kernel : ∀ t : Fin grid0.N, _)

/-- The array region 0 leaves. -/
theorem fmt_final (c : Dev nD) : (dat0 V c).arrAt 1 cfg0.N = fmtArr (V c main_arg0) := by
  refine (dat0 V c).arrAt_eq_of_covers 1 _ (by decide +kernel) fun t hf y => ?_
  blk_simp
  rw [after0_1]
  refine (out0_at _ y).trans ?_
  unfold fmtBlk fmtArr
  have e3 : ((win0_1.blk t).view.emb y 3).val = (y 3).val := by blk_simp [idx0 t]
  have e4 : ((win0_1.blk t).view.emb y 4).val = (y 4).val := by blk_simp [idx0 t]
  by_cases hw : (y 4).val < 66
  · by_cases hh : (y 3).val < 66
    · rw [dif_pos hw, dif_pos hh, dif_pos (by omega), dif_pos (by omega)]
      unfold iblk0
      blk_ext [idx0 t]
    · rw [dif_pos hw, dif_neg hh, dif_pos (by omega), dif_neg (by omega)]
  · rw [dif_neg hw, dif_neg (by omega)]

end Cert.KernelIdeal.Hand

end
-- ==== Proof.KernelIdeal.MaskWords.lean ====
module

public import Idealize.ShloMosaic.Lib.Pointwise

/-! The words behind the mask: a lane's row and column by the host's division and remainder. -/

@[expose] public section

set_option maxRecDepth 16384

noncomputable section

namespace Cert.KernelIdeal.Hand

open Idealize.ShloMosaic Idealize.ShloMosaic.TcCoe Idealize.SL.Sem

/-- The remainder a host remainder call computes, word by word. -/
def remW (x d : BitVec 32) : BitVec 32 :=
  let g := Scalar.select (IntOp.cmpi .eq d 0#32) (1#32) d
  let r := IntOp.remsi .host x g
  Scalar.select (IntOp.andi (IntOp.cmpi .ne (IntOp.cmpi .slt r 0#32) (IntOp.cmpi .slt g 0#32)) (IntOp.cmpi .ne r 0#32)) (IntOp.addi r g) r

/-- The sign of a word. -/
def sgnW (x : BitVec 32) : BitVec 32 := if x = 0 then 0 else if x.msb then -1 else 1

/-- The quotient a host floor division call computes, word by word. -/
def divW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- The mask bit of a lane number. -/
def keepW (x : BitVec 32) : BitVec 1 :=
  IntOp.andi (IntOp.andi (IntOp.cmpi .eq (remW (divW x 70#32) 2#32) 0#32) (IntOp.cmpi .eq (remW (remW x 70#32) 2#32) 0#32))
    (IntOp.cmpi .slt (remW x 70#32) 64#32)

/-- The mask bit of every lane: even row, even column, inside the image. -/
theorem keepW_eq : ∀ l : Fin 4480, keepW (BitVec.ofNat 32 l.val) = if l.val / 70 % 2 = 0 ∧ l.val % 70 % 2 = 0 ∧ l.val % 70 < 64 then 1#1 else 0#1 := by
  decide +kernel

end Cert.KernelIdeal.Hand

end
-- ==== Proof.KernelIdeal.HostVal.lean ====
module

public import proofs.«01_k».proof.Proof.KernelIdeal.FmtVal
public import proofs.«01_k».proof.Proof.KernelIdeal.Fold
public import proofs.«01_k».proof.Proof.KernelIdeal.MaskWords
public import Idealize.ShloMosaic.Lib.StableHlo.ReadAt
public import Idealize.ShloMosaic.Lib.Pointwise
public import Idealize.ShloMosaic.Lib.Pipeline.ValueKit

/-! What the host operations between the regions and after them leave, in terms of the arguments. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The convolution kernel's input is the formatted image, its rows and columns flattened into lanes of seventy. -/
theorem pre_v1 (c : Dev nD) (b : Fin 8) (s : Fin 34) (k : Fin 16) (p : Fin 4690) : (V12 m ρ c main_v1 : FVec Ideal S8x34x16x4690 .bf16) (ix4 b s k p)
    = fmtArr (m ((c : Thread nD τ).loc main_arg0)) (ix5 b s k ⟨p.val / 70, by omega⟩ ⟨p.val % 70, by omega⟩) := by
  show W12 m ρ c (Proc.devRef .tc main_v1) (ix4 b s k p) = _
  have e : W1 m ρ c (Proc.devRef .tc main_v0) = fmtArr (m ((c : Thread nD τ).loc main_arg0)) :=
    (W1_arr m ρ c 1).trans (fmt_final (V0 m ρ) c)
  generalize fmtArr (m ((c : Thread nD τ).loc main_arg0)) = X at e ⊢
  after_reads_at
  rw [e]

/-- Its weight matrix: row `32 * kd + o`, column `(3 * kh + kw) * 16 + c` holds the weight of output channel `o`, input channel `c` and tap `kd, kh, kw`. -/
theorem pre_v4 (c : Dev nD) (r : Fin 96) (q : Fin 144) : (V12 m ρ c main_v4 : FVec Ideal S96x144 .bf16) (ix2 r q)
    = (m ((c : Thread nD τ).loc main_arg1) : FVec Ideal S32x16x3x3x3 .f32) (ix5 ⟨r.val % 32, by omega⟩ ⟨q.val % 16, by omega⟩ ⟨r.val / 32, by omega⟩ ⟨q.val / 48, by omega⟩ ⟨q.val / 16 % 3, by omega⟩) := by
  show W12 m ρ c (Proc.devRef .tc main_v4) (ix2 r q) = _
  after_reads_at
  rw [W1_args m ρ c main_arg1 (by decide)]

/-- Its bias column is the convolution bias. -/
theorem pre_v5 (c : Dev nD) (o : Fin 32) : (V12 m ρ c main_v5 : FVec Ideal S32x1 .f32) (ix2 o 0)
    = (m ((c : Thread nD τ).loc main_arg2) : FVec Ideal S32 .f32) (ix1 o) := by
  show W12 m ρ c (Proc.devRef .tc main_v5) (ix2 o 0) = _
  after_reads_at
  rw [W1_args m ρ c main_arg2 (by decide)]

/-- The program's result from the accumulators: their sum over the channels, halved, plus the sum of the output bias. -/
theorem post_v33 (c : Dev nD) (b : Fin 8) (A : FVec Ideal S8x32x128 .f32) (B : FVec Ideal S32 .f32)
    (hA : (dat1 (V12 m ρ) c).arrAt 7 cfg1.N = A) (hB : m ((c : Thread nD τ).loc main_arg3) = B) :
    (W14 m ρ c (Proc.devRef .tc main_v33) : FVec Ideal S8x1x1x1 .f32) (ix4 b 0 0 0)
    = (∑ o : Fin 32, A (ix3 b o 0)) * (Ideal.ofBits .f32 0x3F000000#32 : EReal) + ∑ o : Fin 32, B (ix1 o) := by
  have e : W13 m ρ c (Proc.devRef .tc main_v24) = A := (W13_arr m ρ c 7).trans hA
  have e' : W13 m ρ c (Proc.devRef .tc main_arg3) = B := (W13_args m ρ c main_arg3 (by decide)).trans hB
  after_reads_at
  rw [e, e']

/-- The mask the host computes. -/
theorem pre_v23 (c : Dev nD) (l : Fin 4480) (n : Fin 128) : (V12 m ρ c main_v23 : FVec Ideal S4480x128 .bf16) (ix2 l n)
    = if l.val / 70 % 2 = 0 ∧ l.val % 70 % 2 = 0 ∧ l.val % 70 < 64 then (1 : EReal) else (0 : EReal) := by
  show W12 m ρ c (Proc.devRef .tc main_v23) (ix2 l n) = _
  after_reads_at
  show Scalar.select (keepW (BitVec.ofNat 32 l.val)) (1 : EReal) 0 = _
  rw [keepW_eq]
  by_cases h : l.val / 70 % 2 = 0 ∧ l.val % 70 % 2 = 0 ∧ l.val % 70 < 64
  · rw [if_pos h, if_pos h]; rfl
  · rw [if_neg h, if_neg h]; rfl

end Cert.KernelIdeal.Hand

end
-- ==== Proof.KernelIdeal.ConvPay.lean ====
module

public import proofs.«01_k».proof.Proof.Gen.KernelIdeal.Skeleton
public import Idealize.ShloMosaic.Lib.Pointwise

/-! Region 1: what the body stores, read at an index over the extended reals. -/

@[expose] public section

set_option maxRecDepth 16384

noncomputable section

namespace Cert.KernelIdeal.Hand

open Cert.KernelIdeal Cert.KernelIdeal.Gen
open Idealize.ShloMosaic Idealize.ShloMosaic.TcCoe Idealize.SL.Sem

/-- The nine-tap product of one depth slab: row `r` of the weight matrix against lane `l` of the slab and its shifts by whole rows and single lanes. -/
def zz (W : FVec Ideal S96x144 .bf16) (X : FVec Ideal S1x1x16x4690 .bf16) (r : Fin 96) (l : Fin 4480) : EReal :=
  ∑ kh : Fin 3, ∑ kw : Fin 3, ∑ c : Fin 16,
    W (ix2 r ⟨(kh.val * 3 + kw.val) * 16 + c.val, by omega⟩) * X (ix4 0 0 c ⟨l.val + (kh.val * 70 + kw.val), by omega⟩)

/-- The product row by row is the nine-tap product: row `k` of the stacked slab is channel `k % 16` shifted by the tap `k / 16`. -/
theorem zz_flat (W : FVec Ideal S96x144 .bf16) (X : FVec Ideal S1x1x16x4690 .bf16) (r : Fin 96) (l : Fin 4480) :
    ∑ k : Fin 144, W (ix2 r k) * X (ix4 0 0 ⟨k.val % 16, by omega⟩ ⟨l.val + (k.val / 16 / 3 * 70 + k.val / 16 % 3), by omega⟩) = zz W X r l := by
  unfold zz
  rw [Fin.sum_univ_tiles 9 16 rfl]
  rw [Fin.sum_univ_tiles 3 3 rfl]
  refine Finset.sum_congr rfl fun kh _ => Finset.sum_congr rfl fun kw _ => Finset.sum_congr rfl fun c _ => ?_
  have h1 : ((kh.val * 3 + kw.val) * 16 + c.val) % 16 = c.val := by omega
  have h2 : ((kh.val * 3 + kw.val) * 16 + c.val) / 16 / 3 = kh.val := by omega
  have h3 : ((kh.val * 3 + kw.val) * 16 + c.val) / 16 % 3 = kw.val := by omega
  simp only [h1, h2, h3]

set_option maxHeartbeats 4000000 in
/-- The first half of the product of the pair of slabs is the first slab's nine-tap product. -/
theorem pay3_at (W : FVec Ideal S96x144 .bf16) (X Y : FVec Ideal S1x1x16x4690 .bf16) (r : Fin 96) (l : Fin 4480) :
    k1_pay3 (F := Ideal) W X Y (ix3 0 r l) = zz W X r l := by
  rw [← zz_flat]
  pointwise [k1_pay3, k1_pay2, k1_pay1]
  refine Finset.sum_congr rfl fun k _ => congrArg (W (ix2 r k) * ·) ?_
  split_ifs <;> refine congrArg X ?_ <;> idx_ext <;> omega

set_option maxHeartbeats 4000000 in
/-- The second half of the product of the pair of slabs is the second slab's nine-tap product. -/
theorem pay4_at (W : FVec Ideal S96x144 .bf16) (X Y : FVec Ideal S1x1x16x4690 .bf16) (r : Fin 96) (l : Fin 4480) :
    k1_pay4 (F := Ideal) W X Y (ix3 0 r l) = zz W Y r l := by
  rw [← zz_flat]
  pointwise [k1_pay4, k1_pay2, k1_pay1]
  refine Finset.sum_congr rfl fun k _ => congrArg (W (ix2 r k) * ·) ?_
  split_ifs <;> refine congrArg Y ?_ <;> idx_ext <;> omega

/-- The same first half where the body carries it as a matrix. -/
theorem pay6_at (W : FVec Ideal S96x144 .bf16) (X Y : FVec Ideal S1x1x16x4690 .bf16) (r : Fin 96) (l : Fin 4480) :
    k1_pay6 (F := Ideal) W X Y (ix2 r l) = zz W X r l := by
  rw [← pay3_at W X Y]
  have e : k1_pay3 (F := Ideal) W X Y = k1_pay9 (k1_pay6 (F := Ideal) W X Y) := rfl
  rw [e]
  pointwise [k1_pay9]

/-- The same second half where the body carries it as a matrix. -/
theorem pay7_at (W : FVec Ideal S96x144 .bf16) (X Y : FVec Ideal S1x1x16x4690 .bf16) (r : Fin 96) (l : Fin 4480) :
    k1_pay7 (F := Ideal) W X Y (ix2 r l) = zz W Y r l := by
  rw [← pay4_at W X Y]
  have e : k1_pay4 (F := Ideal) W X Y = k1_pay10 (k1_pay7 (F := Ideal) W X Y) := rfl
  rw [e]
  pointwise [k1_pay10]

/-- What the body stores into the first half of the scratch, at an index. -/
theorem pay9_at (v : FVec Ideal S96x4480 .f32) (r : Fin 96) (l : Fin 4480) : k1_pay9 (F := Ideal) v (ix3 0 r l) = v (ix2 r l) := by
  pointwise [k1_pay9]

/-- What the body stores into the second half of the scratch, at an index. -/
theorem pay10_at (v : FVec Ideal S96x4480 .f32) (r : Fin 96) (l : Fin 4480) : k1_pay10 (F := Ideal) v (ix3 0 r l) = v (ix2 r l) := by
  pointwise [k1_pay10]

/-- The sum of the two carried rows, at an index. -/
theorem pay8_at (a b : FVec Ideal S1x32x4480 .f32) (o : Fin 32) (l : Fin 4480) :
    k1_pay8 (F := Ideal) a b (ix2 o l) = a (ix3 0 o l) + b (ix3 0 o l) := by
  pointwise [k1_pay8]

/-- The zero fill, at an index. -/
theorem pay11_at (j : S1x32x128.Idx) : k1_pay11 (F := Ideal) j = 0 := by
  pointwise [k1_pay11]

/-- The pooled maxima of one point before the mask: depth pair, bias, and the two shifts. -/
def pooled (v31 v32 : FVec Ideal S96x4480 .f32) (v37 : FVec Ideal S32x4480 .f32) (v40 : FVec Ideal S1x32x4480 .f32) (v53 : FVec Ideal S32x1 .f32) : FVec Ideal S32x4480 .f32 :=
  have v38 : FVec Ideal S32x4480 .f32 := extractStridedSlice S32x4480 ![64, 0] v31 slices_S96x4480_o64_0_S32x4480
  have v39 : FVec Ideal S32x4480 .f32 := addf v37 v38
  have v41 : FVec Ideal S32x4480 .f32 := shapeCast S32x4480 v40 shapeCasts_S1x32x4480_S32x4480
  have v42 : FVec Ideal S32x4480 .f32 := extractStridedSlice S32x4480 ![32, 0] v31 slices_S96x4480_o32_0_S32x4480
  have v43 : FVec Ideal S32x4480 .f32 := addf v41 v42
  have v44 : FVec Ideal S32x4480 .f32 := extractStridedSlice S32x4480 ![64, 0] v32 slices_S96x4480_o64_0_S32x4480
  have v45 : FVec Ideal S32x4480 .f32 := addf v43 v44
  have v52 : FVec Ideal S32x4480 .f32 := maximumf v39 v45
  have v54 : FVec Ideal S32x1 .f32 := shapeCast S32x1 v53 shapeCasts_S32x1_S32x1
  have v55 : FVec Ideal S32x4480 .f32 := broadcastTo S32x4480 v54 broadcasts_S32x1_S32x4480
  have v56 : FVec Ideal S32x4480 .f32 := addf v52 v55
  have v57 : FVec Ideal S32x4479 .f32 := extractStridedSlice S32x4479 ![0, 1] v56 slices_S32x4480_o0_1_S32x4479
  have v58 : FVec Ideal S32x1 .f32 := extractStridedSlice S32x1 ![0, 0] v56 slices_S32x4480_o0_0_S32x1
  have v59 : FVec Ideal S32x4480 .f32 := concatenate S32x4480 1 [⟨S32x4479, v57⟩, ⟨S32x1, v58⟩] concatenates_S32x4479_S32x1_S32x4480_d1
  have v60 : FVec Ideal S32x4480 .f32 := maximumf v56 v59
  have v61 : FVec Ideal S32x4410 .f32 := extractStridedSlice S32x4410 ![0, 70] v60 slices_S32x4480_o0_70_S32x4410
  have v62 : FVec Ideal S32x70 .f32 := extractStridedSlice S32x70 ![0, 0] v60 slices_S32x4480_o0_0_S32x70
  have v63 : FVec Ideal S32x4480 .f32 := concatenate S32x4480 1 [⟨S32x4410, v61⟩, ⟨S32x70, v62⟩] concatenates_S32x4410_S32x70_S32x4480_d1
  maximumf v60 v63

/-- The depth-pair maximum plus the bias at one lane. -/
def mm (v31 v32 : FVec Ideal S96x4480 .f32) (v37 : FVec Ideal S32x4480 .f32) (v40 : FVec Ideal S1x32x4480 .f32) (v53 : FVec Ideal S32x1 .f32)
    (o : Fin 32) (l : Fin 4480) : EReal :=
  max (v37 (ix2 o l) + v31 (ix2 ⟨64 + o.val, by omega⟩ l))
      (v40 (ix3 0 o l) + v31 (ix2 ⟨32 + o.val, by omega⟩ l) + v32 (ix2 ⟨64 + o.val, by omega⟩ l))
    + v53 (ix2 o 0)

/-- At a lane whose three shifts stay inside the slab the pooled value is the maximum over the two-by-two square. -/
theorem pooled_at (v31 v32 : FVec Ideal S96x4480 .f32) (v37 : FVec Ideal S32x4480 .f32) (v40 : FVec Ideal S1x32x4480 .f32) (v53 : FVec Ideal S32x1 .f32)
    (o : Fin 32) (l : Fin 4480) (hl : l.val + 71 < 4480) :
    pooled v31 v32 v37 v40 v53 (ix2 o l)
      = max (max (mm v31 v32 v37 v40 v53 o l) (mm v31 v32 v37 v40 v53 o ⟨1 + l.val, by omega⟩))
          (max (mm v31 v32 v37 v40 v53 o ⟨70 + l.val, by omega⟩) (mm v31 v32 v37 v40 v53 o ⟨1 + (70 + l.val), by omega⟩)) := by
  have h0 : l.val < 4479 := by omega
  have h1 : l.val < 4410 := by omega
  have h2 : 70 + l.val < 4479 := by omega
  pointwise [pooled]
  simp only [h0, h1, h2, ↓reduceDIte]
  rfl

/-- What the body adds into the accumulator: the masked sum of the pooled maxima. -/
theorem pay12_at (v31 v32 : FVec Ideal S96x4480 .f32) (v37 : FVec Ideal S32x4480 .f32) (v40 : FVec Ideal S1x32x4480 .f32) (v53 : FVec Ideal S32x1 .f32)
    (v66 : FVec Ideal S4480x128 .bf16) (v72 : FVec Ideal S1x32x128 .f32) (o : Fin 32) (n : Fin 128) :
    k1_pay12 (F := Ideal) v31 v32 v37 v40 v53 v66 v72 (ix3 0 o n)
      = v72 (ix3 0 o n) + ∑ l : Fin 4480, pooled v31 v32 v37 v40 v53 (ix2 o l) * v66 (ix2 l n) := by
  have e : k1_pay12 (F := Ideal) v31 v32 v37 v40 v53 v66 v72
      = addf (shapeCast S1x32x128 v72 shapeCasts_S1x32x128_S1x32x128)
          (shapeCast S1x32x128 (matmul dot_S32x4480_S4480x128_S32x128_1_0_0_1_n_n none (truncf .bf16 (pooled v31 v32 v37 v40 v53) bitsLt_bf16_f32)
            (shapeCast S4480x128 v66 shapeCasts_S4480x128_S4480x128) (constant S32x128 .f32 0x00000000#32)) shapeCasts_S32x128_S1x32x128) := rfl
  rw [e]
  generalize pooled v31 v32 v37 v40 v53 = P
  pointwise

end Cert.KernelIdeal.Hand

end
-- ==== Proof.KernelIdeal.ConvVal.lean ====
module

public import proofs.«01_k».proof.Proof.KernelIdeal.ConvRegion
public import proofs.«01_k».proof.Proof.KernelIdeal.ConvPay
public import Idealize.ShloMosaic.Lib.Pipeline.ValueKit

/-! Region 1: what the accumulator and the scratch hold after each point. -/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The scratch holding two slabs' products: the first slab's in its first half, the second's in its second. -/
def scr (W : FVec Ideal S96x144 .bf16) (X Y : FVec Ideal S1x1x16x4690 .bf16) : FVec Ideal S2x96x4480 .f32 := fun i =>
  if (i 0).val < 1 then zz W X (i 1) (i 2) else zz W Y (i 1) (i 2)

/-- Two halves put side by side. -/
def halves (Q P : FVec Ideal S1x96x4480 .f32) : FVec Ideal S2x96x4480 .f32 := fun i =>
  if (i 0).val < 1 then Q (ix3 0 (i 1) (i 2)) else P (ix3 0 (i 1) (i 2))

/-- The first thirty-two rows of the first half of the scratch. -/
def rows00 (S : FVec Ideal S2x96x4480 .f32) : FVec Ideal S1x32x4480 .f32 := fun i =>
  S (ix3 0 ⟨(i 1).val, by have h : (i 1).val < 32 := (i 1).isLt; omega⟩ (i 2))
/-- The first thirty-two rows of the second half of the scratch. -/
def rows10 (S : FVec Ideal S2x96x4480 .f32) : FVec Ideal S1x32x4480 .f32 := fun i =>
  S (ix3 1 ⟨(i 1).val, by have h : (i 1).val < 32 := (i 1).isLt; omega⟩ (i 2))
/-- The second thirty-two rows of the second half of the scratch. -/
def rows11 (S : FVec Ideal S2x96x4480 .f32) : FVec Ideal S1x32x4480 .f32 := fun i =>
  S (ix3 1 ⟨32 + (i 1).val, by have h : (i 1).val < 32 := (i 1).isLt; omega⟩ (i 2))

/-- What one point adds into the accumulator, over the scratch `S` it finds and the two slabs `C`, `D` it reads. -/
def ptSum (W : FVec Ideal S96x144 .bf16) (S : FVec Ideal S2x96x4480 .f32) (C D : FVec Ideal S1x1x16x4690 .bf16)
    (cb : FVec Ideal S32x1 .f32) (mask : FVec Ideal S4480x128 .bf16) (o : Fin 32) (n : Fin 128) : EReal :=
  ∑ l : Fin 4480, pooled (k1_pay6 (F := Ideal) W C D) (k1_pay7 (F := Ideal) W C D)
      (k1_pay8 (F := Ideal) (rows00 S) (rows11 S)) (rows10 S) cb (ix2 o l) * mask (ix2 l n)

/-- Where one of the last two stores covers an index, the earlier stores do not matter there. -/
theorem canon_two {S : Shape} {e : EltTy} (p q : View.Piece (Elt Ideal) S e) (L : List (View.Piece (Elt Ideal) S e)) (y : S.Idx)
    (h : ∃ r ∈ [p, q], y ∈ r.1.set) : View.canon (p :: q :: L) y = View.canon [p, q] y := by
  by_cases hp : y ∈ p.1.set
  · obtain ⟨x, rfl⟩ := p.1.exists_idx_of_mem hp
    exact (View.canon_cons_emb p.1 p.2 _ x).trans (View.canon_cons_emb p.1 p.2 _ x).symm
  · rw [View.canon_cons_of_not_mem _ _ hp, View.canon_cons_of_not_mem _ _ hp]
    have hq : y ∈ q.1.set := by
      obtain ⟨r, hr, hy⟩ := h
      rcases List.mem_cons.mp hr with rfl | hr
      · exact absurd hy hp
      · rcases List.mem_cons.mp hr with rfl | hr
        · exact hy
        · exact absurd hr List.not_mem_nil
    obtain ⟨x, rfl⟩ := q.1.exists_idx_of_mem hq
    exact (View.canon_cons_emb q.1 q.2 _ x).trans (View.canon_cons_emb q.1 q.2 _ x).symm

/-- The second half of the scratch. -/
abbrev R1 : Rect S2x96x4480 := Rect.unit (s := S2x96x4480) ![1, 0, 0] ![1, 96, 4480] inb_S2x96x4480_S1x96x4480_1_0_0
/-- The first half of the scratch. -/
abbrev R0 : Rect S2x96x4480 := Rect.unit (s := S2x96x4480) ![0, 0, 0] ![1, 96, 4480] inb_S2x96x4480_S1x96x4480_0_0_0

/-- The two halves cover the scratch. -/
theorem cover_halves (P Q : FVec Ideal S1x96x4480 .f32) (y : S2x96x4480.Idx) :
    ∃ r ∈ [(⟨R1, P⟩ : View.Piece (Elt Ideal) S2x96x4480 .f32), ⟨R0, Q⟩], y ∈ r.1.set :=
  View.cover_of_tiledL _ ![1, 96, 4480] (by sl_kernel_rfl) y

/-- Stores through the two halves leave the two halves, whatever was stored before. -/
theorem canon_halves (P Q : FVec Ideal S1x96x4480 .f32) (L : List (View.Piece (Elt Ideal) S2x96x4480 .f32)) :
    View.canon ((⟨R1, P⟩ : View.Piece (Elt Ideal) S2x96x4480 .f32) :: ⟨R0, Q⟩ :: L) = halves Q P := by
  funext y
  refine (canon_two _ _ L y (cover_halves P Q y)).trans ?_
  unfold halves
  canon_tiles z h
  · rw [if_neg (by omega)]
    refine congrArg P ?_
    idx_ext <;> omega
  · rw [if_pos (by omega)]
    refine congrArg Q ?_
    idx_ext <;> omega

/-- The halves of the first fill. -/
theorem halves_fill (W : FVec Ideal S96x144 .bf16) (X Y : FVec Ideal S1x1x16x4690 .bf16) :
    halves (k1_pay3 (F := Ideal) W X Y) (k1_pay4 (F := Ideal) W X Y) = scr W X Y := by
  funext y
  unfold halves scr
  split
  · exact pay3_at W X Y (y 1) (y 2)
  · exact pay4_at W X Y (y 1) (y 2)

/-- The halves every point leaves. -/
theorem halves_keep (W : FVec Ideal S96x144 .bf16) (X Y : FVec Ideal S1x1x16x4690 .bf16) :
    halves (k1_pay9 (k1_pay6 (F := Ideal) W X Y)) (k1_pay10 (k1_pay7 (F := Ideal) W X Y)) = scr W X Y := halves_fill W X Y

/-- A load of part of the scratch after the first fill. -/
theorem readCov_fill (W : FVec Ideal S96x144 .bf16) (X Y : FVec Ideal S1x1x16x4690 .bf16) (r : Rect S2x96x4480) :
    (View.whole cc1_scratch0).readCov [(⟨R1, k1_pay4 (F := Ideal) W X Y⟩ : View.Piece (Elt Ideal) S2x96x4480 .f32), ⟨R0, k1_pay3 (F := Ideal) W X Y⟩] r.toLoadRect
      = View.ld (scr W X Y) r := by
  rw [View.readCov_eq_canon_ld _ _ _ (cover_halves _ _), canon_halves, halves_fill]

variable (V : (c : Dev nD) → (b : Ref sig .tc) → Buf (Elt Ideal) ((c : Thread nD τ).loc b))

/-- After every point the scratch holds the products of the two slabs the point read. -/
theorem scratch_at (c : Dev nD) (t : Fin cfg1.N) :
    (outsAt1 V c t.val t.isLt).2 = scr (iblk1 V c 4 t) (iblk1 V c 2 t) (iblk1 V c 3 t) := by
  by_cases h0 : t.val % 16 = 0
  · rw [outsAt1_A V c t h0]
    frame_out
    exact (canon_halves _ _ _).trans (halves_keep _ _ _)
  · rw [outsAt1_B V c t h0]
    frame_out
    exact (canon_halves _ _ _).trans (halves_keep _ _ _)

/-- The accumulator after the first point of a batch entry. -/
theorem acc_first (c : Dev nD) (t : Fin cfg1.N) (h0 : t.val % 16 = 0) (o : Fin 32) (n : Fin 128) : (outsAt1 V c t.val t.isLt).1 (ix3 0 o n) =
    0 + ptSum (iblk1 V c 4 t) (scr (iblk1 V c 4 t) (iblk1 V c 0 t) (iblk1 V c 1 t)) (iblk1 V c 2 t) (iblk1 V c 3 t) (iblk1 V c 5 t) (iblk1 V c 6 t) o n := by
  rw [outsAt1_A V c t h0]
  frame_out
  rw [pay12_at, pay11_at]
  refine congrArg (0 + ·) ?_
  rw [readCov_fill, readCov_fill, readCov_fill]
  unfold ptSum
  refine Finset.sum_congr rfl fun l _ => ?_
  refine Ideal.mul_congr ?_ rfl
  congr 2
  · funext i; unfold rows00; pointwise
  · funext i; unfold rows11; pointwise
  · funext i; unfold rows10; pointwise

/-- The accumulator after every other point, over what the point before left. -/
theorem acc_step (c : Dev nD) (t : Fin cfg1.N) (h0 : ¬ t.val % 16 = 0) (o : Fin 32) (n : Fin 128) : (outsAt1 V c t.val t.isLt).1 (ix3 0 o n) =
    (outsAt1 V c (t.val - 1) (Nat.lt_of_le_of_lt (Nat.sub_le _ _) t.isLt)).1 (ix3 0 o n)
    + ptSum (iblk1 V c 4 t) (outsAt1 V c (t.val - 1) (Nat.lt_of_le_of_lt (Nat.sub_le _ _) t.isLt)).2 (iblk1 V c 2 t) (iblk1 V c 3 t) (iblk1 V c 5 t) (iblk1 V c 6 t) o n := by
  rw [outsAt1_B V c t h0]
  frame_out
  rw [pay12_at]
  generalize (outsAt1 V c (t.val - 1) (Nat.lt_of_le_of_lt (Nat.sub_le _ _) t.isLt)) = P
  have e : View.read (Elt Ideal) (View.whole cc1_scratch0) ((Memref.isWhole_whole cc1_scratch0).unread P.2)
    = P.2 := Memref.IsWhole.read_unread _ _
  rw [e]
  refine congrArg (_ + ·) ?_
  unfold ptSum
  refine Finset.sum_congr rfl fun l _ => ?_
  refine Ideal.mul_congr ?_ rfl
  congr 2
  · funext i; unfold rows00; pointwise
  · funext i; unfold rows11; pointwise
  · funext i; unfold rows10; pointwise

/-- The windows' block indices at every point. -/
theorem idx1 : ∀ t : Fin cfg1.N, win1_0.index t = ![t.val / 16, 0, 0, 0] ∧ win1_1.index t = ![t.val / 16, 1, 0, 0]
    ∧ win1_2.index t = ![t.val / 16, 2 * (t.val % 16) + 2, 0, 0] ∧ win1_3.index t = ![t.val / 16, 2 * (t.val % 16) + 3, 0, 0]
    ∧ win1_4.index t = ![0, 0] ∧ win1_5.index t = ![0, 0] ∧ win1_6.index t = ![0, 0] ∧ win1_7.index t = ![t.val / 16, 0, 0] :=
  (by decide +kernel : ∀ t : Fin grid1.N, _)

/-- One depth slab of the formatted input. -/
def slab (X : FVec Ideal S8x34x16x4690 .bf16) (b : Fin 8) (s : Fin 34) : FVec Ideal S1x1x16x4690 .bf16 := fun i => X (ix4 b s (i 2) (i 3))

/-- The first window's block is the batch entry's first slab. -/
theorem iblk1_0 (c : Dev nD) (t : Fin cfg1.N) (b : Fin 8) (s : Fin 34) (hb : b.val = t.val / 16) (hs : s.val = 0) :
    iblk1 V c 0 t = slab (V c main_v1) b s := by
  funext y
  unfold slab iblk1
  blk_ext [idx1 t]

/-- The second window's block is the batch entry's second slab. -/
theorem iblk1_1 (c : Dev nD) (t : Fin cfg1.N) (b : Fin 8) (s : Fin 34) (hb : b.val = t.val / 16) (hs : s.val = 1) :
    iblk1 V c 1 t = slab (V c main_v1) b s := by
  funext y
  unfold slab iblk1
  blk_ext [idx1 t]

/-- The third window's block is the next even slab. -/
theorem iblk1_2 (c : Dev nD) (t : Fin cfg1.N) (b : Fin 8) (s : Fin 34) (hb : b.val = t.val / 16) (hs : s.val = 2 * (t.val % 16) + 2) :
    iblk1 V c 2 t = slab (V c main_v1) b s := by
  funext y
  unfold slab iblk1
  blk_ext [idx1 t]

/-- The fourth window's block is the next odd slab. -/
theorem iblk1_3 (c : Dev nD) (t : Fin cfg1.N) (b : Fin 8) (s : Fin 34) (hb : b.val = t.val / 16) (hs : s.val = 2 * (t.val % 16) + 3) :
    iblk1 V c 3 t = slab (V c main_v1) b s := by
  funext y
  unfold slab iblk1
  blk_ext [idx1 t]

/-- The fifth window's block is the whole weight matrix. -/
theorem iblk1_4 (c : Dev nD) (t : Fin cfg1.N) : iblk1 V c 4 t = V c main_v4 := by
  funext y
  unfold iblk1
  blk_ext [idx1 t]

/-- The sixth window's block is the whole bias column. -/
theorem iblk1_5 (c : Dev nD) (t : Fin cfg1.N) : iblk1 V c 5 t = V c main_v5 := by
  funext y
  unfold iblk1
  blk_ext [idx1 t]

/-- The seventh window's block is the whole mask. -/
theorem iblk1_6 (c : Dev nD) (t : Fin cfg1.N) : iblk1 V c 6 t = V c main_v23 := by
  funext y
  unfold iblk1
  blk_ext [idx1 t]

/-- What batch entry `b` adds at its `j`-th point, over the arrays. -/
def ptArr (X : FVec Ideal S8x34x16x4690 .bf16) (W : FVec Ideal S96x144 .bf16) (cb : FVec Ideal S32x1 .f32) (mask : FVec Ideal S4480x128 .bf16)
    (b : Fin 8) (j : Fin 16) (o : Fin 32) (n : Fin 128) : EReal :=
  ptSum W (scr W (slab X b ⟨2 * j.val, by omega⟩) (slab X b ⟨2 * j.val + 1, by omega⟩))
    (slab X b ⟨2 * j.val + 2, by omega⟩) (slab X b ⟨2 * j.val + 3, by omega⟩) cb mask o n

/-- The array the region leaves: every batch entry's sixteen points added up. -/
def convArr (X : FVec Ideal S8x34x16x4690 .bf16) (W : FVec Ideal S96x144 .bf16) (cb : FVec Ideal S32x1 .f32) (mask : FVec Ideal S4480x128 .bf16) :
    FVec Ideal S8x32x128 .f32 := fun i => ∑ j : Fin 16, ptArr X W cb mask (i 0) j (i 1) (i 2)

/-- The batch entry and the place in its run of a point. -/
def ptTerm (c : Dev nD) (t : Fin cfg1.N) (i : S1x32x128.Idx) : EReal :=
  ptArr (V c main_v1) (V c main_v4) (V c main_v5) (V c main_v23)
    ⟨t.val / 16, by have h := lt_of_lt_of_eq t.isLt N_1; omega⟩ ⟨t.val % 16, by omega⟩ (i 1) (i 2)

/-- The first point's accumulator in terms of the arrays. -/
theorem acc_first' (c : Dev nD) (t : Fin cfg1.N) (h0 : t.val % 16 = 0) (i : S1x32x128.Idx) :
    (outsAt1 V c t.val t.isLt).1 i = 0 + ptTerm V c t i := by
  have h : t.val < 128 := lt_of_lt_of_eq t.isLt N_1
  idx_vars i
  have e0 : i0 = 0 := Fin.eq_zero i0
  subst e0
  rw [acc_first V c t h0]
  unfold ptTerm ptArr
  rw [iblk1_4, iblk1_5, iblk1_6, iblk1_0 V c t ⟨t.val / 16, by omega⟩ ⟨2 * (t.val % 16), by omega⟩ rfl (by show 2 * (t.val % 16) = 0; omega),
    iblk1_1 V c t ⟨t.val / 16, by omega⟩ ⟨2 * (t.val % 16) + 1, by omega⟩ rfl (by show 2 * (t.val % 16) + 1 = 1; omega),
    iblk1_2 V c t ⟨t.val / 16, by omega⟩ ⟨2 * (t.val % 16) + 2, by omega⟩ rfl rfl, iblk1_3 V c t ⟨t.val / 16, by omega⟩ ⟨2 * (t.val % 16) + 3, by omega⟩ rfl rfl]
  rfl

/-- Every other point's accumulator in terms of the arrays. -/
theorem acc_step' (c : Dev nD) (t : Fin cfg1.N) (h0 : ¬ t.val % 16 = 0) (i : S1x32x128.Idx) :
    (outsAt1 V c t.val t.isLt).1 i = (outsAt1 V c (t.val - 1) (Nat.lt_of_le_of_lt (Nat.sub_le _ _) t.isLt)).1 i + ptTerm V c t i := by
  have h : t.val < 128 := lt_of_lt_of_eq t.isLt N_1
  idx_vars i
  have e0 : i0 = 0 := Fin.eq_zero i0
  subst e0
  rw [acc_step V c t h0, scratch_at V c ⟨t.val - 1, Nat.lt_of_le_of_lt (Nat.sub_le _ _) t.isLt⟩]
  unfold ptTerm ptArr
  rw [iblk1_4, iblk1_4, iblk1_5, iblk1_6,
    iblk1_2 V c ⟨t.val - 1, _⟩ ⟨t.val / 16, by omega⟩ ⟨2 * (t.val % 16), by omega⟩ (by show t.val / 16 = (t.val - 1) / 16; omega) (by show 2 * (t.val % 16) = 2 * ((t.val - 1) % 16) + 2; omega),
    iblk1_3 V c ⟨t.val - 1, _⟩ ⟨t.val / 16, by omega⟩ ⟨2 * (t.val % 16) + 1, by omega⟩ (by show t.val / 16 = (t.val - 1) / 16; omega) (by show 2 * (t.val % 16) + 1 = 2 * ((t.val - 1) % 16) + 3; omega),
    iblk1_2 V c t ⟨t.val / 16, by omega⟩ ⟨2 * (t.val % 16) + 2, by omega⟩ rfl rfl, iblk1_3 V c t ⟨t.val / 16, by omega⟩ ⟨2 * (t.val % 16) + 3, by omega⟩ rfl rfl]
  rfl

/-- The array region 1 leaves. -/
theorem conv_final (c : Dev nD) : (dat1 V c).arrAt 7 cfg1.N = convArr (V c main_v1) (V c main_v4) (V c main_v5) (V c main_v23) := by
  refine (dat1 V c).arrAt_eq_of_covers 7 _ (by decide +kernel) fun t hf y => ?_
  blk_simp
  rw [after1_7, Pipeline.eq_sum_fin_of_reset_step_apply_of_flush (fun n h => (outsAt1 V c n h).1) 16 (fun _ => 0) (ptTerm V c)
    (acc_first' V c) (acc_step' V c) t ((flush1_7 t).mp hf) y, zero_add]
  have h : t.val < 128 := lt_of_lt_of_eq t.isLt N_1
  unfold convArr
  refine Fin.sum_fin_congr fun s => ?_
  unfold ptTerm
  congr 1
  · refine Fin.ext ?_
    show (16 * (t.val / 16) + s.val) / 16 = _
    blk_simp [idx1 t]
    omega
  · refine Fin.ext ?_
    show (16 * (t.val / 16) + s.val) % 16 = _
    omega
  · refine Fin.ext ?_
    blk_simp [idx1 t]
  · refine Fin.ext ?_
    blk_simp [idx1 t]

end Cert.KernelIdeal.Hand

end
-- ==== Proof.ReferenceIdeal.RefVal.lean ====
module

public import proofs.«01_k».proof.Proof.Gen.ReferenceIdeal.Read
public import Idealize.ShloMosaic.Lib.Pointwise

/-! The reference's result read at an index: a mean of pooled convolution values. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem

/-- One tap of the convolution at one output element: the sum over the input channels. -/
def tap (x : FVec Ideal S8x16x34x66x66 .f32) (w : FVec Ideal S32x16x3x3x3 .f32) (b : Fin 8) (o : Fin 32) (d : Fin 32) (h w' : Fin 64) (kd kh kw : Fin 3) : EReal :=
  ∑ c : Fin 16, w (ix5 o c kd kh kw) * x (ix5 b c ⟨kd.val + d.val, by omega⟩ ⟨kh.val + h.val, by omega⟩ ⟨kw.val + w'.val, by omega⟩)

/-- The program's tap at any offset: a shifted slice of the input against a slice of the weights. -/
theorem tap_at (x : FVec Ideal S8x16x34x66x66 .f32) (w : FVec Ideal S32x16x3x3x3 .f32) (b : Fin 8) (o : Fin 32) (d : Fin 32) (h w' : Fin 64) (kd kh kw : Fin 3)
    (hx : S8x16x34x66x66.Slices ![0, 0, kd.val, kh.val, kw.val] S8x16x32x64x64) (hw : S32x16x3x3x3.Slices ![0, 0, kd.val, kh.val, kw.val] S32x16x1x1x1) :
    (transpose S8x32x32x64x64 [1, 0, 2, 3, 4] (Host.dotGeneral (F := Ideal) dot_S32x16_S8x16x32x64x64_S32x8x32x64x64_1_1_0_0234_n_n none
      (shapeCast S32x16 (extractStridedSlice S32x16x1x1x1 ![0, 0, kd.val, kh.val, kw.val] w hw) shapeCasts_S32x16x1x1x1_S32x16 : FVec Ideal S32x16 .f32)
      (extractStridedSlice S8x16x32x64x64 ![0, 0, kd.val, kh.val, kw.val] x hx : FVec Ideal S8x16x32x64x64 .f32)) transposes_S32x8x32x64x64_S8x32x32x64x64_1_0_2_3_4 : FVec Ideal S8x32x32x64x64 .f32) (ix5 b o d h w')
    = tap x w b o d h w' kd kh kw := by
  unfold tap
  pointwise

/-- The convolution at one output element, without the bias. -/
def convV (x : FVec Ideal S8x16x34x66x66 .f32) (w : FVec Ideal S32x16x3x3x3 .f32) (b : Fin 8) (o : Fin 32) (d : Fin 32) (h w' : Fin 64) : EReal :=
  ∑ kd : Fin 3, ∑ kh : Fin 3, ∑ kw : Fin 3, tap x w b o d h w' kd kh kw

/-- The program's twenty-seven accumulated taps are the convolution. -/
theorem conv_at (x : FVec Ideal S8x16x34x66x66 .f32) (w : FVec Ideal S32x16x3x3x3 .f32) (b : Fin 8) (o : Fin 32) (d : Fin 32) (h w' : Fin 64) :
    val_main_v162 (F := Ideal) x w (ix5 b o d h w') = convV x w b o d h w' := by
  have h0 : val_main_v5 (F := Ideal) x w (ix5 b o d h w') = tap x w b o d h w' 0 0 0 :=
    tap_at x w b o d h w' 0 0 0 slices_S8x16x34x66x66_S8x16x32x64x64_0_0_0_0_0 slices_S32x16x3x3x3_S32x16x1x1x1_0_0_0_0_0
  have h1 : val_main_v11 (F := Ideal) x w (ix5 b o d h w') = tap x w b o d h w' 0 0 1 :=
    tap_at x w b o d h w' 0 0 1 slices_S8x16x34x66x66_S8x16x32x64x64_0_0_0_0_1 slices_S32x16x3x3x3_S32x16x1x1x1_0_0_0_0_1
  have h2 : val_main_v17 (F := Ideal) x w (ix5 b o d h w') = tap x w b o d h w' 0 0 2 :=
    tap_at x w b o d h w' 0 0 2 slices_S8x16x34x66x66_S8x16x32x64x64_0_0_0_0_2 slices_S32x16x3x3x3_S32x16x1x1x1_0_0_0_0_2
  have h3 : val_main_v23 (F := Ideal) x w (ix5 b o d h w') = tap x w b o d h w' 0 1 0 :=
    tap_at x w b o d h w' 0 1 0 slices_S8x16x34x66x66_S8x16x32x64x64_0_0_0_1_0 slices_S32x16x3x3x3_S32x16x1x1x1_0_0_0_1_0
  have h4 : val_main_v29 (F := Ideal) x w (ix5 b o d h w') = tap x w b o d h w' 0 1 1 :=
    tap_at x w b o d h w' 0 1 1 slices_S8x16x34x66x66_S8x16x32x64x64_0_0_0_1_1 slices_S32x16x3x3x3_S32x16x1x1x1_0_0_0_1_1
  have h5 : val_main_v35 (F := Ideal) x w (ix5 b o d h w') = tap x w b o d h w' 0 1 2 :=
    tap_at x w b o d h w' 0 1 2 slices_S8x16x34x66x66_S8x16x32x64x64_0_0_0_1_2 slices_S32x16x3x3x3_S32x16x1x1x1_0_0_0_1_2
  have h6 : val_main_v41 (F := Ideal) x w (ix5 b o d h w') = tap x w b o d h w' 0 2 0 :=
    tap_at x w b o d h w' 0 2 0 slices_S8x16x34x66x66_S8x16x32x64x64_0_0_0_2_0 slices_S32x16x3x3x3_S32x16x1x1x1_0_0_0_2_0
  have h7 : val_main_v47 (F := Ideal) x w (ix5 b o d h w') = tap x w b o d h w' 0 2 1 :=
    tap_at x w b o d h w' 0 2 1 slices_S8x16x34x66x66_S8x16x32x64x64_0_0_0_2_1 slices_S32x16x3x3x3_S32x16x1x1x1_0_0_0_2_1
  have h8 : val_main_v53 (F := Ideal) x w (ix5 b o d h w') = tap x w b o d h w' 0 2 2 :=
    tap_at x w b o d h w' 0 2 2 slices_S8x16x34x66x66_S8x16x32x64x64_0_0_0_2_2 slices_S32x16x3x3x3_S32x16x1x1x1_0_0_0_2_2
  have h9 : val_main_v59 (F := Ideal) x w (ix5 b o d h w') = tap x w b o d h w' 1 0 0 :=
    tap_at x w b o d h w' 1 0 0 slices_S8x16x34x66x66_S8x16x32x64x64_0_0_1_0_0 slices_S32x16x3x3x3_S32x16x1x1x1_0_0_1_0_0
  have h10 : val_main_v65 (F := Ideal) x w (ix5 b o d h w') = tap x w b o d h w' 1 0 1 :=
    tap_at x w b o d h w' 1 0 1 slices_S8x16x34x66x66_S8x16x32x64x64_0_0_1_0_1 slices_S32x16x3x3x3_S32x16x1x1x1_0_0_1_0_1
  have h11 : val_main_v71 (F := Ideal) x w (ix5 b o d h w') = tap x w b o d h w' 1 0 2 :=
    tap_at x w b o d h w' 1 0 2 slices_S8x16x34x66x66_S8x16x32x64x64_0_0_1_0_2 slices_S32x16x3x3x3_S32x16x1x1x1_0_0_1_0_2
  have h12 : val_main_v77 (F := Ideal) x w (ix5 b o d h w') = tap x w b o d h w' 1 1 0 :=
    tap_at x w b o d h w' 1 1 0 slices_S8x16x34x66x66_S8x16x32x64x64_0_0_1_1_0 slices_S32x16x3x3x3_S32x16x1x1x1_0_0_1_1_0
  have h13 : val_main_v83 (F := Ideal) x w (ix5 b o d h w') = tap x w b o d h w' 1 1 1 :=
    tap_at x w b o d h w' 1 1 1 slices_S8x16x34x66x66_S8x16x32x64x64_0_0_1_1_1 slices_S32x16x3x3x3_S32x16x1x1x1_0_0_1_1_1
  have h14 : val_main_v89 (F := Ideal) x w (ix5 b o d h w') = tap x w b o d h w' 1 1 2 :=
    tap_at x w b o d h w' 1 1 2 slices_S8x16x34x66x66_S8x16x32x64x64_0_0_1_1_2 slices_S32x16x3x3x3_S32x16x1x1x1_0_0_1_1_2
  have h15 : val_main_v95 (F := Ideal) x w (ix5 b o d h w') = tap x w b o d h w' 1 2 0 :=
    tap_at x w b o d h w' 1 2 0 slices_S8x16x34x66x66_S8x16x32x64x64_0_0_1_2_0 slices_S32x16x3x3x3_S32x16x1x1x1_0_0_1_2_0
  have h16 : val_main_v101 (F := Ideal) x w (ix5 b o d h w') = tap x w b o d h w' 1 2 1 :=
    tap_at x w b o d h w' 1 2 1 slices_S8x16x34x66x66_S8x16x32x64x64_0_0_1_2_1 slices_S32x16x3x3x3_S32x16x1x1x1_0_0_1_2_1
  have h17 : val_main_v107 (F := Ideal) x w (ix5 b o d h w') = tap x w b o d h w' 1 2 2 :=
    tap_at x w b o d h w' 1 2 2 slices_S8x16x34x66x66_S8x16x32x64x64_0_0_1_2_2 slices_S32x16x3x3x3_S32x16x1x1x1_0_0_1_2_2
  have h18 : val_main_v113 (F := Ideal) x w (ix5 b o d h w') = tap x w b o d h w' 2 0 0 :=
    tap_at x w b o d h w' 2 0 0 slices_S8x16x34x66x66_S8x16x32x64x64_0_0_2_0_0 slices_S32x16x3x3x3_S32x16x1x1x1_0_0_2_0_0
  have h19 : val_main_v119 (F := Ideal) x w (ix5 b o d h w') = tap x w b o d h w' 2 0 1 :=
    tap_at x w b o d h w' 2 0 1 slices_S8x16x34x66x66_S8x16x32x64x64_0_0_2_0_1 slices_S32x16x3x3x3_S32x16x1x1x1_0_0_2_0_1
  have h20 : val_main_v125 (F := Ideal) x w (ix5 b o d h w') = tap x w b o d h w' 2 0 2 :=
    tap_at x w b o d h w' 2 0 2 slices_S8x16x34x66x66_S8x16x32x64x64_0_0_2_0_2 slices_S32x16x3x3x3_S32x16x1x1x1_0_0_2_0_2
  have h21 : val_main_v131 (F := Ideal) x w (ix5 b o d h w') = tap x w b o d h w' 2 1 0 :=
    tap_at x w b o d h w' 2 1 0 slices_S8x16x34x66x66_S8x16x32x64x64_0_0_2_1_0 slices_S32x16x3x3x3_S32x16x1x1x1_0_0_2_1_0
  have h22 : val_main_v137 (F := Ideal) x w (ix5 b o d h w') = tap x w b o d h w' 2 1 1 :=
    tap_at x w b o d h w' 2 1 1 slices_S8x16x34x66x66_S8x16x32x64x64_0_0_2_1_1 slices_S32x16x3x3x3_S32x16x1x1x1_0_0_2_1_1
  have h23 : val_main_v143 (F := Ideal) x w (ix5 b o d h w') = tap x w b o d h w' 2 1 2 :=
    tap_at x w b o d h w' 2 1 2 slices_S8x16x34x66x66_S8x16x32x64x64_0_0_2_1_2 slices_S32x16x3x3x3_S32x16x1x1x1_0_0_2_1_2
  have h24 : val_main_v149 (F := Ideal) x w (ix5 b o d h w') = tap x w b o d h w' 2 2 0 :=
    tap_at x w b o d h w' 2 2 0 slices_S8x16x34x66x66_S8x16x32x64x64_0_0_2_2_0 slices_S32x16x3x3x3_S32x16x1x1x1_0_0_2_2_0
  have h25 : val_main_v155 (F := Ideal) x w (ix5 b o d h w') = tap x w b o d h w' 2 2 1 :=
    tap_at x w b o d h w' 2 2 1 slices_S8x16x34x66x66_S8x16x32x64x64_0_0_2_2_1 slices_S32x16x3x3x3_S32x16x1x1x1_0_0_2_2_1
  have h26 : val_main_v161 (F := Ideal) x w (ix5 b o d h w') = tap x w b o d h w' 2 2 2 :=
    tap_at x w b o d h w' 2 2 2 slices_S8x16x34x66x66_S8x16x32x64x64_0_0_2_2_2 slices_S32x16x3x3x3_S32x16x1x1x1_0_0_2_2_2
  have hz : val_main_v0 (F := Ideal) (ix5 b o d h w') = (0 : EReal) := by pointwise [val_main_v0, val_main_cst]
  have hadd : ∀ p q : EReal, FloatOps.addf (F := Ideal) (φ := .f32) p q = p + q := fun _ _ => rfl
  rw [val_main_v162_apply, val_main_v156_apply, val_main_v150_apply, val_main_v144_apply, val_main_v138_apply, val_main_v132_apply, val_main_v126_apply, val_main_v120_apply, val_main_v114_apply, val_main_v108_apply, val_main_v102_apply, val_main_v96_apply, val_main_v90_apply, val_main_v84_apply, val_main_v78_apply, val_main_v72_apply, val_main_v66_apply, val_main_v60_apply, val_main_v54_apply, val_main_v48_apply, val_main_v42_apply, val_main_v36_apply, val_main_v30_apply, val_main_v24_apply, val_main_v18_apply, val_main_v12_apply, val_main_v6_apply]
  rw [h0, h1, h2, h3, h4, h5, h6, h7, h8, h9, h10, h11, h12, h13, h14, h15, h16, h17, h18, h19, h20, h21, h22, h23, h24, h25, h26, hz]
  simp only [hadd]
  unfold convV
  simp only [Fin.sum_univ_three, zero_add, add_assoc]

/-- The maximum over a two by two by two cell. -/
def cell (y : FVec Ideal S8x32x32x64x64 .f32) (b : Fin 8) (o : Fin 32) (d : Fin 16) (h w : Fin 32) : EReal :=
  let f := fun p q r : Fin 2 => y (ix5 b o ⟨d.val * 2 + p.val, by omega⟩ ⟨h.val * 2 + q.val, by omega⟩ ⟨w.val * 2 + r.val, by omega⟩)
  let M := fun q r : Fin 2 => max (f 0 q r) (f 1 q r)
  max (max (M 0 0) (M 0 1)) (max (M 1 0) (M 1 1))

/-- Every element of a cell is at most its maximum. -/
theorem le_cell (y : FVec Ideal S8x32x32x64x64 .f32) (b : Fin 8) (o : Fin 32) (d : Fin 16) (h w : Fin 32) (p q r : Fin 2) :
    y (ix5 b o ⟨d.val * 2 + p.val, by omega⟩ ⟨h.val * 2 + q.val, by omega⟩ ⟨w.val * 2 + r.val, by omega⟩) ≤ cell y b o d h w := by
  have hp : ∀ k : Fin 2, k = 0 ∨ k = 1 := by decide
  unfold cell
  rcases hp p with rfl | rfl <;> rcases hp q with rfl | rfl <;> rcases hp r with rfl | rfl <;>
    simp only [le_max_iff, le_refl, true_or, or_true]

/-- A cell's maximum is below any bound of all its elements. -/
theorem cell_le (y : FVec Ideal S8x32x32x64x64 .f32) (b : Fin 8) (o : Fin 32) (d : Fin 16) (h w : Fin 32) (M : EReal)
    (hM : ∀ p q r : Fin 2, y (ix5 b o ⟨d.val * 2 + p.val, by omega⟩ ⟨h.val * 2 + q.val, by omega⟩ ⟨w.val * 2 + r.val, by omega⟩) ≤ M) :
    cell y b o d h w ≤ M := by
  unfold cell
  simp only [max_le_iff]
  exact ⟨⟨⟨hM 0 0 0, hM 1 0 0⟩, ⟨hM 0 0 1, hM 1 0 1⟩⟩, ⟨⟨hM 0 1 0, hM 1 1 0⟩, ⟨hM 0 1 1, hM 1 1 1⟩⟩⟩

/-- The kept axes of the pooling. -/
theorem drop_at (i : S8x32x16x2x32x2x32x2.Idx) :
    reducesTo_S8x32x16x2x32x2x32x2_S8x32x16x32x32_d3_5_7.drop i = ix5 (i 0) (i 1) (i 2) (i 4) (i 6) := by
  idx_ext

/-- The pooling the program computes. -/
theorem pool_at (y : FVec Ideal S8x32x32x64x64 .f32) (b : Fin 8) (o : Fin 32) (d : Fin 16) (h w : Fin 32) :
    (Host.reduce FloatOps.maximumf (shapeCast S8x32x16x2x32x2x32x2 y shapeCasts_S8x32x32x64x64_S8x32x16x2x32x2x32x2) (val_main_cst_0 (F := Ideal)) reducesTo_S8x32x16x2x32x2x32x2_S8x32x16x32x32_d3_5_7 h_S_ : FVec Ideal S8x32x16x32x32 .f32) (ix5 b o d h w)
      = cell y b o d h w := by
  pointwise [val_main_cst_0]
  refine le_antisymm ?_ ?_
  · refine (Finset.fold_max_le _).mpr ⟨?_, fun i hi => ?_⟩
    · have e : Ideal.ofBits .f32 4286578688#32 = ⊥ := by
        show Ideal.ieee 8 23 4286578688#32 = ⊥
        unfold Ideal.ieee
        rw [if_pos (by decide), if_pos (by decide), if_pos (by decide)]
      rw [e]; exact bot_le
    · have e := (Finset.mem_filter.mp hi).2
      rw [drop_at] at e
      have e0 : i 0 = b := congrFun e 0
      have e1 : i 1 = o := congrFun e 1
      have e2 : i 2 = d := congrFun e 2
      have e3 : i 4 = h := congrFun e 3
      have e4 : i 6 = w := congrFun e 4
      subst e0 e1 e2 e3 e4
      exact le_cell y (i 0) (i 1) (i 2) (i 4) (i 6) (i 3) (i 5) (i 7)
  · refine cell_le y b o d h w _ fun p q r => ?_
    refine (Finset.le_fold_max _).mpr (Or.inr ⟨ix8 b o d p h q w r, Finset.mem_filter.mpr ⟨Finset.mem_univ _, drop_at _⟩, le_rfl⟩)

/-- The sum of the pooled values of one batch entry and one output channel. -/
theorem sum_at (y : FVec Ideal S8x32x16x32x32 .f32) (b : Fin 8) (o : Fin 32) :
    (Host.reduceAdd y (val_main_cst_1 (F := Ideal)) reducesTo_S8x32x16x32x32_S8x32_d2_3_4 h_S_ : FVec Ideal S8x32 .f32) (ix2 b o)
      = ∑ d : Fin 16, ∑ h : Fin 32, ∑ w : Fin 32, y (ix5 b o d h w) := by
  pointwise [val_main_cst_1]

/-- The reference's result at a batch entry. -/
theorem ref_at (x : FVec Ideal S8x16x34x66x66 .f32) (w : FVec Ideal S32x16x3x3x3 .f32) (cb bs : FVec Ideal S32 .f32) (b : Fin 8) :
    val_main_v175 (F := Ideal) x w cb bs (ix4 b 0 0 0)
      = ∑ o : Fin 32, ((∑ d : Fin 16, ∑ h : Fin 32, ∑ w' : Fin 32, cell (fun i => convV x w (i 0) (i 1) (i 2) (i 3) (i 4) + cb (ix1 (i 1))) b o d h w')
          * (Ideal.ofBits .f32 0x3F000000#32 : EReal) + bs (ix1 o)) := by
  have hy : val_main_v165 (F := Ideal) x w cb = fun i => convV x w (i 0) (i 1) (i 2) (i 3) (i 4) + cb (ix1 (i 1)) := by
    funext i
    idx_vars i
    have e : val_main_v164 (F := Ideal) cb (ix5 i0 i1 i2 i3 i4) = cb (ix1 i1) := by pointwise [val_main_v164, val_main_v163]
    rw [val_main_v165_apply, conv_at, e]
    rfl
  have hp : ∀ o d h w', val_main_v167 (F := Ideal) x w cb (ix5 b o d h w') = cell (fun i => convV x w (i 0) (i 1) (i 2) (i 3) (i 4) + cb (ix1 (i 1))) b o d h w' := by
    intro o d h w'
    rw [← hy]
    exact pool_at _ b o d h w'
  have hs : ∀ o, val_main_v168 (F := Ideal) x w cb (ix2 b o) = ∑ d : Fin 16, ∑ h : Fin 32, ∑ w' : Fin 32, cell (fun i => convV x w (i 0) (i 1) (i 2) (i 3) (i 4) + cb (ix1 (i 1))) b o d h w' := by
    intro o
    refine (sum_at _ b o).trans ?_
    exact Finset.sum_congr rfl fun d _ => Finset.sum_congr rfl fun h _ => Finset.sum_congr rfl fun w' _ => hp o d h w'
  pointwise [val_main_v175, val_main_v174, val_main_v173, val_main_v172, val_main_v171, val_main_v170, val_main_v169, val_main_cst_2, val_main_cst_3]
  refine Finset.sum_congr rfl fun o _ => ?_
  rw [hs]

end Cert.ReferenceIdeal.Hand

end
-- ==== Proof.Meet.lean ====
module

public import proofs.«01_k».proof.Proof.KernelIdeal.HostVal
public import proofs.«01_k».proof.Proof.KernelIdeal.ConvVal
public import proofs.«01_k».proof.Proof.ReferenceIdeal.RefVal

/-! The two programs' results are the same extended real numbers: the kernel's lanes are the reference's output positions. -/

@[expose] public section

set_option maxRecDepth 16384

noncomputable section

namespace Cert.Meet

open Cert.KernelIdeal Cert.KernelIdeal.Gen Cert.KernelIdeal.Hand
open Cert.ReferenceIdeal.Hand (tap convV cell)
open Idealize.ShloMosaic Idealize.ShloMosaic.TcCoe Idealize.SL.Sem

/-- A lane sum against the mask is the sum over the even rows and the even columns. -/
theorem mask_sum (f : Fin 4480 → EReal) :
    (∑ l : Fin 4480, f l * (if l.val / 70 % 2 = 0 ∧ l.val % 70 % 2 = 0 ∧ l.val % 70 < 64 then (1 : EReal) else 0))
      = ∑ h : Fin 32, ∑ w : Fin 32, f ⟨(h.val * 2) * 70 + w.val * 2, by omega⟩ := by
  simp only [mul_ite, mul_one, mul_zero]
  rw [← Finset.sum_filter, ← Fintype.sum_prod_type' (f := fun (h w : Fin 32) => f ⟨(h.val * 2) * 70 + w.val * 2, by omega⟩)]
  refine Finset.sum_bij' (fun l hl => (⟨l.val / 70 / 2, by omega⟩, ⟨l.val % 70 / 2 % 32, by omega⟩)) (fun p _ => ⟨(p.1.val * 2) * 70 + p.2.val * 2, by omega⟩) ?_ ?_ ?_ ?_ ?_
  · intro l _; exact Finset.mem_univ _
  · intro p _
    refine Finset.mem_filter.mpr ⟨Finset.mem_univ _, ?_⟩
    have := p.1.isLt; have := p.2.isLt
    refine ⟨?_, ?_, ?_⟩ <;> show _ <;> simp only [] <;> omega
  · intro l hl
    have := (Finset.mem_filter.mp hl).2
    refine Fin.ext ?_
    show (l.val / 70 / 2 * 2) * 70 + l.val % 70 / 2 % 32 * 2 = l.val
    omega
  · intro p _
    have := p.1.isLt; have := p.2.isLt
    refine Prod.ext (Fin.ext ?_) (Fin.ext ?_)
    · show ((p.1.val * 2) * 70 + p.2.val * 2) / 70 / 2 = p.1.val
      omega
    · show ((p.1.val * 2) * 70 + p.2.val * 2) % 70 / 2 % 32 = p.2.val
      omega
  · intro l hl
    have := (Finset.mem_filter.mp hl).2
    refine congrArg f (Fin.ext ?_)
    show l.val = (l.val / 70 / 2 * 2) * 70 + l.val % 70 / 2 % 32 * 2
    omega

/-- Multiplication by a finite nonnegative number goes under a sum. -/
theorem sum_mul_real {n : ℕ} (f : Fin n → EReal) (c : EReal) (h0 : 0 ≤ c) (h1 : c ≠ ⊤) : (∑ i, f i) * c = ∑ i, f i * c := by
  induction (Finset.univ : Finset (Fin n)) using Finset.cons_induction with
  | empty => simp
  | cons a s ha ih => rw [Finset.sum_cons, Finset.sum_cons, ← ih, mul_comm, EReal.left_distrib_of_nonneg_of_ne_top h0 h1, mul_comm c, mul_comm c]

/-- The scale is a finite nonnegative number. -/
theorem half_ok : 0 ≤ Ideal.ofBits .f32 0x3F000000#32 ∧ Ideal.ofBits .f32 0x3F000000#32 ≠ ⊤ := by
  show 0 ≤ Ideal.ieee 8 23 0x3F000000#32 ∧ Ideal.ieee 8 23 0x3F000000#32 ≠ ⊤
  unfold Ideal.ieee
  rw [if_neg (by decide), if_neg (by decide), if_neg (by decide)]
  exact ⟨EReal.coe_nonneg.mpr (by positivity), EReal.coe_ne_top _⟩

section
variable (x : FVec Ideal S8x16x34x66x66 .f32) (w : FVec Ideal S32x16x3x3x3 .f32) (cb : FVec Ideal S32 .f32)
variable (X5 : FVec Ideal S8x34x16x4690 .bf16) (WM : FVec Ideal S96x144 .bf16) (CB : FVec Ideal S32x1 .f32) (MASK : FVec Ideal S4480x128 .bf16)

/-- One slab's matrix product, row block `kd`, at an image lane: the taps of that depth offset. -/
theorem zz_taps (hX : ∀ b s k p, X5 (ix4 b s k p) = fmtArr x (ix5 b s k ⟨p.val / 70, by omega⟩ ⟨p.val % 70, by omega⟩))
    (hW : ∀ (r : Fin 96) (q : Fin 144), WM (ix2 r q) = w (ix5 ⟨r.val % 32, by omega⟩ ⟨q.val % 16, by omega⟩ ⟨r.val / 32, by omega⟩ ⟨q.val / 48, by omega⟩ ⟨q.val / 16 % 3, by omega⟩))
    (b : Fin 8) (o d : Fin 32) (h w' : Fin 64) (kd : Fin 3) (s : Fin 34) (r : Fin 96) (l : Fin 4480)
    (hs : s.val = kd.val + d.val) (hr : r.val = kd.val * 32 + o.val) (hl : l.val = h.val * 70 + w'.val) :
    zz WM (slab X5 b s) r l = ∑ kh : Fin 3, ∑ kw : Fin 3, tap x w b o d h w' kd kh kw := by
  unfold zz tap
  refine Finset.sum_congr rfl fun kh _ => Finset.sum_congr rfl fun kw _ => Finset.sum_congr rfl fun c _ => ?_
  have := kh.isLt; have := kw.isLt; have := c.isLt; have := h.isLt; have := w'.isLt; have := o.isLt; have := kd.isLt
  have hp : l.val + (kh.val * 70 + kw.val) < 4690 := by omega
  have e : slab X5 b s (ix4 0 0 c ⟨l.val + (kh.val * 70 + kw.val), hp⟩) = X5 (ix4 b s c ⟨l.val + (kh.val * 70 + kw.val), hp⟩) := rfl
  refine Ideal.mul_congr ?_ ?_
  · rw [hW]
    refine congrArg w ?_
    idx_ext <;> simp only [] <;> omega
  · refine (e.trans (hX b s c _)).trans ?_
    have e4 : (l.val + (kh.val * 70 + kw.val)) % 70 < 66 := by omega
    have e3 : (l.val + (kh.val * 70 + kw.val)) / 70 < 66 := by omega
    refine (dif_pos e4).trans ((dif_pos e3).trans ?_)
    refine congrArg x ?_
    idx_ext <;> simp only [] <;> omega

/-- The biased convolution. -/
abbrev convB : FVec Ideal Cert.ReferenceIdeal.S8x32x32x64x64 .f32 := fun i => convV x w (i 0) (i 1) (i 2) (i 3) (i 4) + cb (ix1 (i 1))

/-- One lane before pooling: the larger of the two biased convolution values of the depth pair. -/
theorem mm_conv (hX : ∀ b s k p, X5 (ix4 b s k p) = fmtArr x (ix5 b s k ⟨p.val / 70, by omega⟩ ⟨p.val % 70, by omega⟩))
    (hW : ∀ (r : Fin 96) (q : Fin 144), WM (ix2 r q) = w (ix5 ⟨r.val % 32, by omega⟩ ⟨q.val % 16, by omega⟩ ⟨r.val / 32, by omega⟩ ⟨q.val / 48, by omega⟩ ⟨q.val / 16 % 3, by omega⟩))
    (hB : ∀ o : Fin 32, CB (ix2 o 0) = cb (ix1 o))
    (b : Fin 8) (o : Fin 32) (j : Fin 16) (h w' : Fin 64) (l : Fin 4480) (hl : l.val = h.val * 70 + w'.val) (s0 s1 s2 s3 : Fin 34)
    (h0 : s0.val = 2 * j.val) (h1 : s1.val = 2 * j.val + 1) (h2 : s2.val = 2 * j.val + 2) (h3 : s3.val = 2 * j.val + 3) :
    mm (k1_pay6 (F := Ideal) WM (slab X5 b s2) (slab X5 b s3)) (k1_pay7 (F := Ideal) WM (slab X5 b s2) (slab X5 b s3))
      (k1_pay8 (F := Ideal) (rows00 (scr WM (slab X5 b s0) (slab X5 b s1))) (rows11 (scr WM (slab X5 b s0) (slab X5 b s1))))
      (rows10 (scr WM (slab X5 b s0) (slab X5 b s1))) CB o l
    = max (convB x w cb (ix5 b o ⟨j.val * 2 + (0 : Fin 2).val, by omega⟩ h w')) (convB x w cb (ix5 b o ⟨j.val * 2 + (1 : Fin 2).val, by omega⟩ h w')) := by
  unfold mm
  rw [pay8_at, pay6_at, pay6_at, pay7_at, hB]
  have a0 : rows00 (scr WM (slab X5 b s0) (slab X5 b s1)) (ix3 0 o l) = zz WM (slab X5 b s0) ⟨o.val, by omega⟩ l := rfl
  have a1 : rows11 (scr WM (slab X5 b s0) (slab X5 b s1)) (ix3 0 o l) = zz WM (slab X5 b s1) ⟨32 + o.val, by omega⟩ l := rfl
  have a2 : rows10 (scr WM (slab X5 b s0) (slab X5 b s1)) (ix3 0 o l) = zz WM (slab X5 b s1) ⟨o.val, by omega⟩ l := rfl
  rw [a0, a1, a2]
  have t := fun (d : Fin 32) (kd : Fin 3) (s : Fin 34) (r : Fin 96) (hs : s.val = kd.val + d.val) (hr : r.val = kd.val * 32 + o.val) =>
    zz_taps x w X5 WM hX hW b o d h w' kd s r l hs hr hl
  have c0 : convV x w b o ⟨j.val * 2 + (0 : Fin 2).val, by omega⟩ h w' = zz WM (slab X5 b s0) ⟨o.val, by omega⟩ l + zz WM (slab X5 b s1) ⟨32 + o.val, by omega⟩ l
      + zz WM (slab X5 b s2) ⟨64 + o.val, by omega⟩ l := by
    unfold convV
    rw [Fin.sum_univ_three]
    rw [← t ⟨j.val * 2 + (0 : Fin 2).val, by omega⟩ 0 s0 ⟨o.val, by omega⟩ (by simp; omega) (by simp),
      ← t ⟨j.val * 2 + (0 : Fin 2).val, by omega⟩ 1 s1 ⟨32 + o.val, by omega⟩ (by simp; omega) (by simp),
      ← t ⟨j.val * 2 + (0 : Fin 2).val, by omega⟩ 2 s2 ⟨64 + o.val, by omega⟩ (by simp; omega) (by simp)]
  have c1 : convV x w b o ⟨j.val * 2 + (1 : Fin 2).val, by omega⟩ h w' = zz WM (slab X5 b s1) ⟨o.val, by omega⟩ l + zz WM (slab X5 b s2) ⟨32 + o.val, by omega⟩ l
      + zz WM (slab X5 b s3) ⟨64 + o.val, by omega⟩ l := by
    unfold convV
    rw [Fin.sum_univ_three]
    rw [← t ⟨j.val * 2 + (1 : Fin 2).val, by omega⟩ 0 s1 ⟨o.val, by omega⟩ (by simp; omega) (by simp),
      ← t ⟨j.val * 2 + (1 : Fin 2).val, by omega⟩ 1 s2 ⟨32 + o.val, by omega⟩ (by simp; omega) (by simp),
      ← t ⟨j.val * 2 + (1 : Fin 2).val, by omega⟩ 2 s3 ⟨64 + o.val, by omega⟩ (by simp; omega) (by simp)]
  rw [← c0, ← c1]
  exact Monotone.map_max (f := fun a : EReal => a + cb (ix1 o)) (fun _ _ hab => add_le_add_left hab _)

/-- One point's contribution is the sum of its cells' maxima. -/
theorem pt_cells (hX : ∀ b s k p, X5 (ix4 b s k p) = fmtArr x (ix5 b s k ⟨p.val / 70, by omega⟩ ⟨p.val % 70, by omega⟩))
    (hW : ∀ (r : Fin 96) (q : Fin 144), WM (ix2 r q) = w (ix5 ⟨r.val % 32, by omega⟩ ⟨q.val % 16, by omega⟩ ⟨r.val / 32, by omega⟩ ⟨q.val / 48, by omega⟩ ⟨q.val / 16 % 3, by omega⟩))
    (hB : ∀ o : Fin 32, CB (ix2 o 0) = cb (ix1 o))
    (hM : ∀ (l : Fin 4480) (n : Fin 128), MASK (ix2 l n) = if l.val / 70 % 2 = 0 ∧ l.val % 70 % 2 = 0 ∧ l.val % 70 < 64 then (1 : EReal) else (0 : EReal))
    (b : Fin 8) (j : Fin 16) (o : Fin 32) (n : Fin 128) :
    ptArr X5 WM CB MASK b j o n = ∑ h : Fin 32, ∑ w' : Fin 32, cell (convB x w cb) b o j h w' := by
  unfold ptArr ptSum
  simp only [hM]
  rw [mask_sum (fun l => pooled _ _ _ _ _ (ix2 o l))]
  refine Finset.sum_congr rfl fun h _ => Finset.sum_congr rfl fun w' _ => ?_
  have hh := h.isLt
  have hw' := w'.isLt
  rw [pooled_at _ _ _ _ _ o _ (by simp only []; omega)]
  have t := fun (q r : Fin 2) (l : Fin 4480) (hl : l.val = (h.val * 2 + q.val) * 70 + (w'.val * 2 + r.val)) =>
    mm_conv x w cb X5 WM CB hX hW hB b o j ⟨h.val * 2 + q.val, by omega⟩ ⟨w'.val * 2 + r.val, by omega⟩ l hl
      ⟨2 * j.val, by omega⟩ ⟨2 * j.val + 1, by omega⟩ ⟨2 * j.val + 2, by omega⟩ ⟨2 * j.val + 3, by omega⟩ rfl rfl rfl rfl
  rw [t 0 0 _ (by simp), t 0 1 _ (by simp; omega), t 1 0 _ (by simp; omega), t 1 1 _ (by simp; omega)]
  rfl

/-- The kernel's last host operations over its accumulators give the reference's result. -/
theorem total (bs : FVec Ideal S32 .f32) (hX : ∀ b s k p, X5 (ix4 b s k p) = fmtArr x (ix5 b s k ⟨p.val / 70, by omega⟩ ⟨p.val % 70, by omega⟩))
    (hW : ∀ (r : Fin 96) (q : Fin 144), WM (ix2 r q) = w (ix5 ⟨r.val % 32, by omega⟩ ⟨q.val % 16, by omega⟩ ⟨r.val / 32, by omega⟩ ⟨q.val / 48, by omega⟩ ⟨q.val / 16 % 3, by omega⟩))
    (hB : ∀ o : Fin 32, CB (ix2 o 0) = cb (ix1 o))
    (hM : ∀ (l : Fin 4480) (n : Fin 128), MASK (ix2 l n) = if l.val / 70 % 2 = 0 ∧ l.val % 70 % 2 = 0 ∧ l.val % 70 < 64 then (1 : EReal) else (0 : EReal))
    (b : Fin 8) :
    (∑ o : Fin 32, convArr X5 WM CB MASK (ix3 b o 0)) * (Ideal.ofBits .f32 0x3F000000#32 : EReal) + ∑ o : Fin 32, bs (ix1 o)
      = Cert.ReferenceIdeal.Read.val_main_v175 (F := Ideal) x w cb bs (ix4 b 0 0 0) := by
  rw [Cert.ReferenceIdeal.Hand.ref_at, Finset.sum_add_distrib, sum_mul_real _ _ half_ok.1 half_ok.2]
  refine congrArg (· + _) (Finset.sum_congr rfl fun o _ => congrArg (· * _) ?_)
  exact Finset.sum_congr rfl fun j _ => pt_cells x w cb X5 WM CB MASK hX hW hB hM b j o 0

end

/-- The kernel's result array is the reference's term over the same arguments. -/
theorem result (m : (ℓ : Loc nD τ sig) → Buf (Elt Ideal) ℓ) (ρ : Dev nD → PrngReg) (c : Dev nD) :
    W14 m ρ c (Proc.devRef .tc main_v33)
      = Cert.ReferenceIdeal.Read.val_main_v175 (F := Ideal) (m ((c : Thread nD τ).loc main_arg0)) (m ((c : Thread nD τ).loc main_arg1))
          (m ((c : Thread nD τ).loc main_arg2)) (m ((c : Thread nD τ).loc main_arg3)) := by
  have key : ∀ i : S8x1x1x1.Idx, (W14 m ρ c (Proc.devRef .tc main_v33) : FVec Ideal S8x1x1x1 .f32) i
      = Cert.ReferenceIdeal.Read.val_main_v175 (F := Ideal) (m ((c : Thread nD τ).loc main_arg0)) (m ((c : Thread nD τ).loc main_arg1))
          (m ((c : Thread nD τ).loc main_arg2)) (m ((c : Thread nD τ).loc main_arg3)) i := by
    intro i
    idx_vars i
    have e1 : i1 = 0 := Fin.eq_zero i1
    have e2 : i2 = 0 := Fin.eq_zero i2
    have e3 : i3 = 0 := Fin.eq_zero i3
    subst e1 e2 e3
    refine (post_v33 m ρ c i0 _ _ (conv_final (V12 m ρ) c) rfl).trans ?_
    exact total _ _ _ _ _ _ _ _ (pre_v1 m ρ c) (pre_v4 m ρ c) (pre_v5 m ρ c) (pre_v23 m ρ c) i0
  exact funext key

end Cert.Meet

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Whole
public import proofs.«01_k».proof.Proof.KernelIdeal.Whole
public import proofs.«01_k».proof.Proof.Meet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, at machine floats, terminates with its arguments unchanged and every semaphore at zero. -/
theorem kernel_frame : quiescent_Kernel (hKernel := Cert.Kernel.Gen.facts) := fun m g _ =>
  (θ_run Cert.Kernel.defs _ _).mono (fun _ h => ⟨fun c => (h.1 c).2, h.2⟩) (Cert.Kernel.Hand.run m g)

/-- The kernel at extended reals terminates with its arguments unchanged and every semaphore at zero. -/
theorem kernelIdeal_frame : quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run (F := Ideal) m g)

/-- The reference terminates with its arguments unchanged; it has no semaphore. -/
theorem referenceIdeal_frame : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- What the reference leaves, as the term the values are read from. -/
theorem reference_result (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
      r.2.mem ((c.tc : Thread Cert.ReferenceIdeal.nD Cert.ReferenceIdeal.τ).loc Cert.ReferenceIdeal.main_v175)
        = Cert.ReferenceIdeal.Read.val_main_v175 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨(h c).1.trans (Cert.ReferenceIdeal.Read.val_main_v175_eq (F := Ideal) (Idealize.ShloMosaic.StableHlo.launchContents m c)), (h c).2⟩)
    (Cert.ReferenceIdeal.Value.run (F := Ideal) m g)

/-- From memories that agree on the arguments, the kernel and the reference end with the same result at extended reals. -/
theorem kernel_eq_reference :
    algebraic_KernelIdeal_ReferenceIdeal (hKernelIdeal := Cert.KernelIdeal.Gen.facts) (hReferenceIdeal := Cert.ReferenceIdeal.Gen.facts) := by
  intro m g m' g' _ hargs
  have hk := Cert.KernelIdeal.Hand.run (F := Ideal) m g
  have hr := reference_result m' g'
  refine ⟨fun c => Cert.KernelIdeal.Hand.W14 m g c (Proc.devRef .tc Cert.KernelIdeal.main_v33),
    (θ_run Cert.KernelIdeal.defs _ _).mono (fun _ h => h.1) hk,
    (θ_run Cert.ReferenceIdeal.defs _ _).mono (fun _ h c => ⟨(h c).1.trans ?_, (h c).2⟩) hr⟩
  obtain ⟨e0, e1, e2, e3⟩ := hargs c
  rw [e0, e1, e2, e3]
  exact (Cert.Meet.result m g c).symm

/-- Every claim of the certificate. -/
theorem claim : Cert.Claim := ⟨Cert.Kernel.Gen.facts, Cert.KernelIdeal.Gen.facts, Cert.ReferenceIdeal.Gen.facts,
  kernel_frame, kernelIdeal_frame, referenceIdeal_frame, trivial, kernel_eq_reference⟩

end Cert.Proof

end
